-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024 : Shape := ⟨1, ![1024]⟩
abbrev S100000x64 : Shape := ⟨2, ![100000, 64]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S100000x64 .f32) (main_arg2 : FVec F S100000x64 .f32) (main_arg3 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S100000x64 : Shape := ⟨2, ![100000, 64]⟩
abbrev S100000 : Shape := ⟨1, ![100000]⟩
abbrev S64x100000 : Shape := ⟨2, ![64, 100000]⟩
abbrev S64x8192 : Shape := ⟨2, ![64, 8192]⟩
abbrev S8192x64 : Shape := ⟨2, ![8192, 64]⟩
abbrev S1024x64 : Shape := ⟨2, ![1024, 64]⟩
abbrev S512 : Shape := ⟨1, ![512]⟩
abbrev S_ : Shape := ⟨0, ![]⟩
abbrev S1 : Shape := ⟨1, ![1]⟩
abbrev S1x64 : Shape := ⟨2, ![1, 64]⟩
abbrev S64 : Shape := ⟨1, ![64]⟩
abbrev S1x100000 : Shape := ⟨2, ![1, 100000]⟩
abbrev S100000x1024 : Shape := ⟨2, ![100000, 1024]⟩
abbrev S64x4096 : Shape := ⟨2, ![64, 4096]⟩
abbrev S1x4096 : Shape := ⟨2, ![1, 4096]⟩
abbrev S4096x1024 : Shape := ⟨2, ![4096, 1024]⟩
abbrev S1x1024 : Shape := ⟨2, ![1, 1024]⟩
abbrev S1024x100000 : Shape := ⟨2, ![1024, 100000]⟩

abbrev nBuf : Table → Nat
  | .hbm => 11
  | .local .tc .vmem => 11
  | .local .scScalar .smem => 1
  | _ => 0

abbrev bufTy : (tb : Table) → Fin (nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S64x100000, .f32⟩
  | .hbm, ⟨5, _⟩ => ⟨S100000x64, .f32⟩
  | .hbm, ⟨6, _⟩ => ⟨S1024x64, .f32⟩
  | .hbm, ⟨7, _⟩ => ⟨S64x100000, .f32⟩
  | .hbm, ⟨8, _⟩ => ⟨S1x100000, .f32⟩
  | .hbm, ⟨9, _⟩ => ⟨S100000x1024, .f32⟩
  | .hbm, ⟨10, _⟩ => ⟨S1024x100000, .f32⟩
  | .local .tc .vmem, ⟨0, _⟩ => ⟨S64x8192, .f32⟩
  | .local .tc .vmem, ⟨1, _⟩ => ⟨S64x8192, .f32⟩
  | .local .tc .vmem, ⟨2, _⟩ => ⟨S8192x64, .f32⟩
  | .local .tc .vmem, ⟨3, _⟩ => ⟨S8192x64, .f32⟩
  | .local .tc .vmem, ⟨4, _⟩ => ⟨S1024x64, .f32⟩
  | .local .tc .vmem, ⟨5, _⟩ => ⟨S64x4096, .f32⟩
  | .local .tc .vmem, ⟨6, _⟩ => ⟨S64x4096, .f32⟩
  | .local .tc .vmem, ⟨7, _⟩ => ⟨S1x4096, .f32⟩
  | .local .tc .vmem, ⟨8, _⟩ => ⟨S1x4096, .f32⟩
  | .local .tc .vmem, ⟨9, _⟩ => ⟨S4096x1024, .f32⟩
  | .local .tc .vmem, ⟨10, _⟩ => ⟨S4096x1024, .f32⟩
  | .local .scScalar .smem, ⟨0, _⟩ => ⟨S512, .i32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v1_scs : Ref sig .scScalar := ⟨.hbm, 5, rfl⟩
abbrev main_arg0_scs : Ref sig .scScalar := ⟨.hbm, 0, rfl⟩
abbrev main_v2_scs : Ref sig .scScalar := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg3_1 : Ref sig .tc := ⟨.vmem, 10, rfl⟩
abbrev cc1_scratch0 : Ref sig .scScalar := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 6
abbrev cc2_sem1_0 : DmaSem sig := 7
abbrev cc2_sem1_1 : DmaSem sig := 8
abbrev cc2_sem2_0 : DmaSem sig := 9
abbrev cc2_sem2_1 : DmaSem sig := 10
abbrev cc2_sem3_0 : DmaSem sig := 11
abbrev cc2_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![2], ![false]⟩

def k1_off1 (i : grid1.Coords) : Fin 1 → Nat :=
  let arg0 : BitVec 32 := BitVec.ofNat 32 (i 0).val
  let c512_i32 : BitVec 32 := 512#32
  let v0 : BitVec 32 := Scalar.muli arg0 c512_i32
  ![v0.toNat]
@[reducible] def k1_t1_loop : Scf.Loop 32 :=
  let c0_i32 : BitVec 32 := 0#32
  let c512_i32_0 : BitVec 32 := 512#32
  let v3 : BitVec 32 := Scalar.addi c0_i32 c512_i32_0
  let c1_i32 : BitVec 32 := 1#32
  ⟨c0_i32, v3, c1_i32⟩
def k1_off2 (k1_t1 : Fin k1_t1_loop.trips) : Fin 1 → Nat :=
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v5 : BitVec 32 := Scalar.muli arg7 c1_i32_6
  let v6 : BitVec 32 := Scalar.addi c0_i32_7 v5
  let v7 : Index := Scalar.indexCast v6
  ![v7.toNat]
def k1_off3 (i : grid1.Coords) (k1_t1 : Fin k1_t1_loop.trips) : Fin 2 → Nat :=
  let arg0 : BitVec 32 := BitVec.ofNat 32 (i 0).val
  let c512_i32 : BitVec 32 := 512#32
  let v0 : BitVec 32 := Scalar.muli arg0 c512_i32
  let c0_i32_7 : BitVec 32 := 0#32
  let c0_i32 : BitVec 32 := 0#32
  let c1_i32 : BitVec 32 := 1#32
  let arg7 : BitVec 32 := Scf.iv c0_i32 c1_i32 k1_t1
  let c1_i32_6 : BitVec 32 := 1#32
  let v5 : BitVec 32 := Scalar.muli arg7 c1_i32_6
  let v6 : BitVec 32 := Scalar.addi c0_i32_7 v5
  let v9 : BitVec 32 := Scalar.addi v0 v6
  let c0_i32_8 : BitVec 32 := 0#32
  ![v9.toNat, 0]
def k1_off4 (v8 : BitVec 32) : Fin 2 → Nat :=
  let c0_i32_9 : BitVec 32 := 0#32
  ![v8.toNat, 0]

def k1_chk1 (v8 : BitVec 32) : Prop :=
  (∀ a, (k1_off4 v8) a + S1x64.size a ≤ S100000x64.size a)
theorem k1_off4_inb : ∀ (v8 : BitVec 32) (k1_hw1 : k1_chk1 v8), ∀ a, (k1_off4 v8) a + S1x64.size a ≤ S100000x64.size a := fun v8 k1_hw1 => k1_hw1

@[reducible] def k1_t2_loop : Scf.Loop 32 :=
  let c0_i32_2 : BitVec 32 := 0#32
  let c512_i32_3 : BitVec 32 := 512#32
  let v4 : BitVec 32 := Scalar.addi c0_i32_2 c512_i32_3
  let c1_i32_4 : BitVec 32 := 1#32
  ⟨c0_i32_2, v4, c1_i32_4⟩
def k1_off5 (k1_t2 : Fin k1_t2_loop.trips) : Fin 1 → Nat :=
  let c0_i32_7 : BitVec 32 := 0#32
  let c0_i32_2 : BitVec 32 := 0#32
  let c1_i32_4 : BitVec 32 := 1#32
  let arg7 : BitVec 32 := Scf.iv c0_i32_2 c1_i32_4 k1_t2
  let c1_i32_6 : BitVec 32 := 1#32
  let v5 : BitVec 32 := Scalar.muli arg7 c1_i32_6
  let v6 : BitVec 32 := Scalar.addi c0_i32_7 v5
  let v7 : Index := Scalar.indexCast v6
  ![v7.toNat]
def k1_off6 (i : grid1.Coords) (k1_t2 : Fin k1_t2_loop.trips) : Fin 2 → Nat :=
  let arg0 : BitVec 32 := BitVec.ofNat 32 (i 0).val
  let c512_i32 : BitVec 32 := 512#32
  let v0 : BitVec 32 := Scalar.muli arg0 c512_i32
  let c0_i32_7 : BitVec 32 := 0#32
  let c0_i32_2 : BitVec 32 := 0#32
  let c1_i32_4 : BitVec 32 := 1#32
  let arg7 : BitVec 32 := Scf.iv c0_i32_2 c1_i32_4 k1_t2
  let c1_i32_6 : BitVec 32 := 1#32
  let v5 : BitVec 32 := Scalar.muli arg7 c1_i32_6
  let v6 : BitVec 32 := Scalar.addi c0_i32_7 v5
  let v9 : BitVec 32 := Scalar.addi v0 v6
  let c0_i32_8 : BitVec 32 := 0#32
  ![v9.toNat, 0]
def k1_off7 (v8 : BitVec 32) : Fin 2 → Nat :=
  let c0_i32_9 : BitVec 32 := 0#32
  ![v8.toNat, 0]

def k1_chk2 (v8 : BitVec 32) : Prop :=
  (∀ a, (k1_off7 v8) a + S1x64.size a ≤ S100000x64.size a)
theorem k1_off7_inb : ∀ (v8 : BitVec 32) (k1_hw2 : k1_chk2 v8), ∀ a, (k1_off7 v8) a + S1x64.size a ≤ S100000x64.size a := fun v8 k1_hw2 => k1_hw2

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S64x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S1024 : Shape := ⟨1, ![1024]⟩
abbrev S100000x64 : Shape := ⟨2, ![100000, 64]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S64x100000 : Shape := ⟨2, ![64, 100000]⟩
abbrev S1024x100000 : Shape := ⟨2, ![1024, 100000]⟩
abbrev S1x100000 : Shape := ⟨2, ![1, 100000]⟩

abbrev nBuf : Space → Nat
  | .hbm => 32
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x64, .f32⟩
  | .hbm, ⟨23, _⟩ => ⟨S1024x64, .i1⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S64x100000, .f32⟩
  | .hbm, ⟨28, _⟩ => ⟨S1024x100000, .f32⟩
  | .hbm, ⟨29, _⟩ => ⟨S1x100000, .f32⟩
  | .hbm, ⟨30, _⟩ => ⟨S1024x100000, .f32⟩
  | .hbm, ⟨31, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]
-- ==== Proof.Pre.lean ====
/-
  What the precondition says: every id is a row of the table.
-/
module

public import proofs.«01_k».proof.Pre_in_range
public import proofs.«01_k».proof.Proof.Gen.Pre_in_range
public import Idealize.ShloMosaic.Lib.ReduceAll

@[expose] public section

noncomputable section

namespace Cert.Proof

open Cert.Pre_in_range Cert.Pre_in_range.Gen
open Idealize.ShloMosaic

variable {F : FTy → Type} [FloatOps F]

/-- A word that is at least 0 and less than 100000, read signed, is below 100000. -/
theorem toNat_lt_of_signed {w : BitVec 32} (h0 : 0 ≤ w.toInt) (h1 : w.toInt < 100000) : w.toNat < 100000 := by
  have := BitVec.toInt_eq_toNat_cond w
  split at this <;> omega

/-- Where the precondition holds, every id is below 100000. -/
theorem ids_lt {ids : IVec S1024 32} {tab w : FVec F S100000x64 .f32} {b : FVec F S100000 .f32}
    (h : Cert.Pre_in_range.fn (F := F) ids tab w b = fun _ => 1#1) (i : S1024.Idx) : (ids i).toNat < 100000 := by
  have h' := congrFun h (fun a => a.elim0)
  dsimp only [Cert.Pre_in_range.fn] at h'
  haveI : Subsingleton S_.Idx := ⟨fun x y => funext fun a => a.elim0⟩
  have hi := IntOp.andi_eq_one.1 (Host.reduce_andi_all _ _ _ _ _ h' i)
  exact toNat_lt_of_signed (IntOp.cmpi_sge.1 hi.1) (IntOp.cmpi_slt.1 hi.2)

end Cert.Proof

end
-- ==== Proof.Setup.lean ====
/-
  What every module of this proof shares: the program as the launch theorem takes it, the algebra the proof's ghost state
  lives in, the arrays' places in memory, and what the gather leaves.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Ring
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

/-- The labels of the regions' program, under the SparseCore launch. -/
abbrev ΛP : Labels := Pipeline.Sig Λ₀ (Fin 2) fun p => (pcfgs (F := F) p).Adm
/-- The one SparseCore call. -/
abbrev K : SparseCore.Cfg τ sig (ΛP (F := F)) 1 := sc (F := F)
/-- The bodies, with the two TensorCore regions over them. -/
abbrev D [FloatOps F] : Defs nD τ sig (Elt F) (ΛP (F := F)) := Pipeline.defs pcfgs defs₀
/-- No body calls itself: the variants are trivial. -/
abbrev 𝒱₀ : Variants := Variants.none
/-- The same under the launch. -/
abbrev 𝒱 : Variants := 𝒱₀.lift
/-- The launch's variant. -/
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the launch handshakes' rounds, the regions' rounds, the transfers' counters -/

/-- The ghost state of the launch handshakes. -/
abbrev UH : Type := URounds (GSem nD τ sig) ℕ
/-- The regions' ghost state. -/
abbrev UP : Type := URounds (GSem nD τ sig) Unit
/-- The regions' ghost state beside the kernel's counters. -/
abbrev UR : Type := UP × Counters
/-- All of it. -/
abbrev UU : Type := UH × UR

local notation "𝕄" => MT nD τ sig (HIx 1) (Elt F) ℕ UU ℕ

/-- The handshakes' rounds, the left factor. -/
abbrev EH : Emb UH (MT nD τ sig (HIx 1) (Elt F) ℕ UU ℕ) := embL
/-- The regions' rounds, the left factor of the right one; -/
abbrev EP : Emb UP (MT nD τ sig (HIx 1) (Elt F) ℕ UU ℕ) := (Emb.inl : Emb UP UR).trans embR
/-- the transfers' counters, found in the rest. -/
abbrev EC : UEmb Counters (MT nD τ sig (HIx 1) (Elt F) ℕ UU ℕ) := countersEmb

/-! ## The arrays -/

/-- Where argument 0 lies. -/
abbrev a0Loc (d : Dev nD) : Loc nD τ sig := (SparseCore.T d).loc main_arg0
/-- Where argument 1 lies. -/
abbrev a1Loc (d : Dev nD) : Loc nD τ sig := (SparseCore.T d).loc main_arg1
/-- Where argument 2 lies. -/
abbrev a2Loc (d : Dev nD) : Loc nD τ sig := (SparseCore.T d).loc main_arg2
/-- Where argument 3 lies. -/
abbrev a3Loc (d : Dev nD) : Loc nD τ sig := (SparseCore.T d).loc main_arg3
/-- Where value 0 of the main program lies. -/
abbrev b0Loc (d : Dev nD) : Loc nD τ sig := (SparseCore.T d).loc main_v0
/-- Where value 1 of the main program lies. -/
abbrev b1Loc (d : Dev nD) : Loc nD τ sig := (SparseCore.T d).loc main_v1
/-- Where value 2 of the main program lies. -/
abbrev b2Loc (d : Dev nD) : Loc nD τ sig := (SparseCore.T d).loc main_v2
/-- Where value 3 of the main program lies. -/
abbrev b3Loc (d : Dev nD) : Loc nD τ sig := (SparseCore.T d).loc main_v3
/-- Where value 4 of the main program lies. -/
abbrev b4Loc (d : Dev nD) : Loc nD τ sig := (SparseCore.T d).loc main_v4
/-- Where value 5 of the main program lies. -/
abbrev b5Loc (d : Dev nD) : Loc nD τ sig := (SparseCore.T d).loc main_v5
/-- Where value 6 of the main program lies. -/
abbrev b6Loc (d : Dev nD) : Loc nD τ sig := (SparseCore.T d).loc main_v6

/-! ## What the gather leaves -/

/-- A word as a row of the table (every word the precondition admits is its own row). -/
def rowOf (w : BitVec 32) : Fin 100000 := ⟨w.toNat % 100000, Nat.mod_lt _ (by decide)⟩

/-- Row `r` of the result is row `ids r` of the table. -/
def gath (ids : S1024.Idx → BitVec 32) (tab : S100000x64.Idx → F .f32) : S1024x64.Idx → F .f32 :=
  fun i => tab (ix2 (rowOf (ids (ix1 (i 0)))) (i 1))

end Cert.Proof.K

end
-- ==== Proof.Region.lean ====
/-
  How a TensorCore region is entered from, and left with, its arrays and what the core owes the launch.
-/
module

public import proofs.«01_k».proof.Proof.Setup
public import Idealize.ShloMosaic.Lib.Pipeline.RegionArraysF

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable [FloatOps F]

/-- No region prefetches a table. -/
abbrev aP : (p : Fin 2) → (pcfgs (F := F) p).Adm := fun p => (cfgs p).toPCfg_adm

/-- One core's data of one region: what the body may leave in each window's buffer. -/
abbrev RD (p : Fin 2) (d : Dev nD) : Type _ :=
  Pipeline.RDat τ (Elt F) (HIx 1) ℕ UU ℕ (Pipeline.pin (pcfgs (F := F)) aP p) d

/-- What a core that has begun `n` SparseCore calls still owes the launch, and what it has waited for. -/
def owing (d : Dev nD) (n : ℕ) : sProp 𝕄 :=
  iprop(∃ W, ⌜(K (F := F)).WBelow (T d) W (8 * n)⌝ ∗ owes (T d) ((K (F := F)).Otc d n) W)

/-- The pairs that a core which has begun `n` calls may have waited for. -/
def below (d : Dev nD) (n : ℕ) : Set (SemLoc sig × HIx 1) := {p | (K (F := F)).lev (T d, p.1) p.2 ≤ 8 * n}

/-- Nothing of that is owed at the kernels' own index. -/
theorem Otc_none (d : Dev nD) (n : ℕ) (g : GSem nD τ sig) : (K (F := F)).Otc d n g (none : HIx 1) = 0 := by
  by_contra h
  have := SparseCore.Cfg.lev_of_Otc_pos (Nat.pos_of_ne_zero h)
  exact absurd this (by simp)

/-- On entry, what the core owes the launch is what the region lets it owe. -/
theorem owes_in (d : Dev nD) (n : ℕ) (B : Set (SemLoc sig × HIx 1)) :
    owing (F := F) d n ⊢ Pipeline.owesWithin d ((K (F := F)).Otc d n) (below (F := F) d n ∪ B) := by
  unfold owing
  iintro ⟨%W, %hW, H⟩
  iexists W
  isplitr
  · ipureintro; exact fun p hp => Or.inl (hW p hp)
  iexact H

/-- On exit, what the region lets the core owe is what it owes the launch. -/
theorem owes_out (d : Dev nD) (n : ℕ) (cfg : Pipeline.Cfg sig Λ₀) :
    Pipeline.owesWithin d ((K (F := F)).Otc d n) (below (F := F) d n ∪ cfg.waitPairs none) ⊢ owing (F := F) d n := by
  unfold owing
  iintro ⟨%W, %hW, H⟩
  iexists W
  isplitr
  · ipureintro
    intro p hp
    rcases hW hp with h | ⟨w, s, rfl⟩
    · exact h
    · exact Nat.zero_le _
  iexact H

variable (rdats : (p : Fin 2) → (d : Dev nD) → RD (F := F) p d)

/-- A region whose core owes the launch what it owes after `n` calls, entered from its arrays at the entry contents and left
    with each at contents its write-backs may have made. -/
def seg (p : Fin 2) (n : ℕ) (kit : Pipeline.PLaunchFacts (nD := nD) (τ := τ) (pcfgs (F := F)) p)
    (hK : (pcfgs (F := F) p).pre.K = 0)
    (hbody : ∀ d, (rdats p d).BodyObligation (defs₀ (F := F)) 𝒱₀ none Set.univ)
    (howed : ∀ d t, (rdats p d).owed t = (K (F := F)).Otc d n)
    (hrec : ∀ d t, (rdats p d).recorded t = below (F := F) d n)
    (hΦ : ∀ d t, (rdats p d).Φ t = Pipeline.scopedRest (pcfgs (F := F) p).spec d) :
    Pipeline.RDat.RegionSeg (pcfgs (F := F)) aP rdats none (defs₀ (F := F)) 𝒱₀ (K (F := F)).L (K (F := F)).lev p where
  win := kit.to₀.win
  block_pos := kit.to₀.block_pos
  stage_whole := kit.to₀.stage_whole
  K := PEmpty
  osem := fun k => k.elim
  ho := Pipeline.OwnSemFacts.none _
  hbody := hbody
  hwaits d := Pipeline.RDat.cellsWaits_intro (Pipeline.pin (pcfgs (F := F)) aP) rdats none p d fun w s t => by
    rw [howed]; exact (K (F := F)).mayWait_none _ (Otc_none d n)
  pre d := iprop((rdats p d).arrays (rdats p d).A ∗ owing (F := F) d n)
  post d := iprop((rdats p d).arraysAt (Pipeline.pin (pcfgs (F := F)) aP p).N ∗ owing (F := F) d n)
  X _ := iprop(emp)
  Y _ := iprop(emp)
  Z _ := iprop(emp)
  hentry d := by
    rw [Pipeline.prefHeld_of_none _ hK]
    unfold Pipeline.RDat.owesAt Pipeline.RDat.bound
    rw [howed, hrec]
    iintro ⟨⟨Ha, Ho⟩, -, -⟩
    imodintro
    isplitl [Ha]; · iexact Ha
    isplitr; · iempintro
    isplitl [Ho]; · iapply (owes_in d n _); iexact Ho
    isplitr <;> iempintro
  hin d := by
    rw [hΦ]
    iintro ⟨-, -, H⟩
    iexact H
  hout d := by
    rw [hΦ, Pipeline.ownSems0_none]
    iintro H
    isplitr; · iempintro
    isplitr; · iempintro
    iexact H
  hexit d := by
    unfold Pipeline.RDat.owesAt Pipeline.RDat.bound
    rw [howed, hrec]
    iintro ⟨Ha, Ho, -, -⟩
    imodintro
    isplitl [Ha]; · iexact Ha
    iapply (owes_out d n _); iexact Ho

end Cert.Proof.K

end
-- ==== Proof.Steps.lean ====
/-
  The steps of the main program on the TensorCore: an array operation, and a region entered from the SparseCore launch.
-/
module

public import proofs.«01_k».proof.Proof.Region

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.StableHlo (held wp_hlo_within)

variable {F : FTy → Type}

local notation "𝕄" => MT nD τ sig (HIx 1) (Elt F) ℕ UU ℕ

variable [FloatOps F]

variable (d : Dev nD)

/-- An operation that reads `x` and writes `y`. -/
theorem step_hlo (m : (ℓ : Loc nD τ sig) → Buf (Elt F) ℓ) (x y : Ref sig .tc) (op : HloOp τ sig (Elt F)) (hop : op.bufs = {Proc.devRef .tc x, Proc.devRef .tc y})
    (hw : op.writes = {Proc.devRef .tc y}) (hf : op.fresh = ∅) (hxy : (Proc.devRef (τ := τ) .tc x) ≠ Proc.devRef .tc y)
    (u : Buf (Elt F) ((SparseCore.T d : Thread nD τ).loc x)) (v out : Buf (Elt F) ((SparseCore.T d : Thread nD τ).loc y))
    (hres : ∀ W : Valuation τ sig (Elt F), W (Proc.devRef .tc x) = u → op.result W (Proc.devRef .tc y) = out)
    (Φ : PUnit → sProp 𝕄) :
    iprop(boundary (T d) ∗ ((SparseCore.T d).loc x ↦{fullShare} u) ∗ ((SparseCore.T d).loc y ↦{fullShare} v)
        ∗ (iprop(boundary (T d) ∗ ((SparseCore.T d).loc x ↦{fullShare} u) ∗ ((SparseCore.T d).loc y ↦{fullShare} out)) -∗ Φ ⟨⟩))
      ⊢ wp frame (wpE ((K (F := F)).defs (D (F := F))) 𝒱 (T d) none) Set.univ (hlo rfl op fun _ => .ret ⟨⟩) Φ := by
  have hV : ∀ (W : Valuation τ sig (Elt F)), (held (T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := fun W => by
    unfold held
    rw [SparseCore.bigSep_insert' (by rw [Finset.mem_singleton]; exact hxy), bigSep_singleton]
  let V : Valuation τ sig (Elt F) := Function.update (Function.update (fun b => m (d, b)) (Proc.devRef .tc x) u) (Proc.devRef .tc y) v
  have hVx : V (Proc.devRef .tc x) = u := (Function.update_of_ne hxy _ _).trans (Function.update_self _ _ _)
  have hVy : V (Proc.devRef .tc y) = v := Function.update_self _ _ _
  have hR : (held (T d) {Proc.devRef .tc x, Proc.devRef .tc y} (op.result V) : sProp 𝕄)
      = iprop(((SparseCore.T d).loc x ↦{fullShare} u) ∗ ((SparseCore.T d).loc y ↦{fullShare} out)) := by
    rw [hV, hres V hVx, op.result_of_not_mem V (b := Proc.devRef .tc x) (by rw [hw, Finset.mem_singleton]; exact hxy), hVx]
  iintro ⟨Hb, Hx, Hy, Hk⟩
  iapply (wp_hlo_within 𝒱 (T d) none Set.univ (op := op) (S := {Proc.devRef .tc x, Proc.devRef .tc y}) (hop ▸ subset_rfl) (V := V) hf) $$ [Hb Hx Hy]
  · isplitl [Hb]; · iexact Hb
    rw [hV, hVx, hVy]
    isplitl [Hx]; · iexact Hx
    iexact Hy
  rw [hR, wp_ret]
  iintro ⟨Hb, Hx, Hy⟩
  imodintro
  iapply Hk
  isplitl [Hb]; · iexact Hb
  isplitl [Hx]; · iexact Hx
  iexact Hy

/-- The regions' share of the launch's ghost state on one device. -/
abbrev regionGhost (p : Fin 2) (d : Dev nD) : sProp 𝕄 :=
  iprop(Pipeline.cellsGhost (Pipeline.pin (pcfgs (F := F)) aP) EP p d ∗ Pipeline.toksInit (Pipeline.pin (pcfgs (F := F)) aP) EP p d)

/-- A region entered, in the regions' own program. -/
abbrev enter (p : Fin 2) : Prog (TpuEff nD τ sig (Elt F) (ΛP (F := F)) .tc) PUnit :=
  .op (.customCall (Pipeline.entry p) ()) fun _ => .ret PUnit.unit

/-- No two windows share a semaphore. -/
theorem cells_inj : Function.Injective (Pipeline.cellOf (nD := nD) (τ := τ) (Pipeline.pin (pcfgs (F := F)) aP)) :=
  (launch0.toP (Val := Elt F)).cellOf_inj aP

/-- A region entered from the main program is the region itself, lifted to the launch. -/
theorem region_lift (p : Fin 2) :
    SparseCore.liftProg (nD := nD) (τ := τ) (sig := sig) (Val := Elt F) (Λ := ΛP (F := F)) (Q := 1) (pr := .tc)
        (enter (F := F) p)
      = (Prog.lift (.customCall (SparseCore.inner (Pipeline.entry p)) ()) : Prog (TpuEff nD τ sig (Elt F) (SparseCore.Sig (ΛP (F := F)) 1) .tc) PUnit) := rfl

/-- A step of the main program that enters a region: from its precondition, to its postcondition. -/
theorem step_region [∀ e, Nonempty (Elt F e)] (rdats : (p : Fin 2) → (d : Dev nD) → RD (F := F) p d) (p : Fin 2)
    (R : Pipeline.RDat.RegionSeg (pcfgs (F := F)) aP rdats none (defs₀ (F := F)) 𝒱₀ (K (F := F)).L (K (F := F)).lev p)
    (Φ : PUnit → sProp 𝕄) :
    iprop(boundary (T d) ∗ R.pre d ∗ levAts (K (F := F)).L (K (F := F)).lev ∗ regionGhost (F := F) p d
        ∗ (iprop(boundary (T d) ∗ R.post d) -∗ Φ ⟨⟩))
      ⊢ wp frame (wpE ((K (F := F)).defs (D (F := F))) 𝒱 (T d) none) Set.univ
          (Prog.lift (.customCall (SparseCore.inner (Pipeline.entry p)) ())) Φ := by
  rw [← region_lift]
  refine BI.Entails.trans ?_ ((K (F := F)).wp_liftProg (D (F := F)) 𝒱 (SparseCore.T d) Set.univ none (enter (F := F) p) Φ)
  refine BI.Entails.trans ?_ (Pipeline.RDat.RegionSeg.wp (pcfgs (F := F)) aP rdats none cells_inj EP (defs₀ (F := F)) 𝒱₀ (K (F := F)).L (K (F := F)).lev
    R d none (fun u h => absurd h (Option.not_mem_none u)) (fun _ => .ret PUnit.unit) Φ)
  show iprop(boundary (T d) ∗ R.pre d ∗ levAts (K (F := F)).L (K (F := F)).lev ∗ regionGhost (F := F) p d
        ∗ (iprop(boundary (T d) ∗ R.post d) -∗ Φ ⟨⟩)) ⊢ (_ : sProp 𝕄)
  iintro ⟨Hb, Hp, Hl, ⟨Hc, Ht⟩, Hk⟩
  isplitl [Hk]
  · rw [wp_ret]
    iintro H
    imodintro
    iapply Hk
    iexact H
  isplitl [Hb]; · iexact Hb
  isplitl [Hp]; · iexact Hp
  isplitl [Hl]; · iexact Hl
  isplitl [Hc]; · iexact Hc
  iexact Ht

end Cert.Proof.K

end
-- ==== Proof.GatherRows.lean ====
/-
  The rows of the gather: the set of places of each row, and which places a row copy reads and writes.
-/
module

public import proofs.«01_k».proof.Proof.Setup

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! The kernel's operands, spelt as the body table passes them: the table, the indices, the gathered array, the
subcore's scalar memory. -/
abbrev tM : Memref sig .scScalar .hbm S100000x64 .f32 := Memref.whole main_v1_scs
/-- The indices, as the kernel addresses them. -/
abbrev iM : Memref sig .scScalar .hbm S1024 .i32 := Memref.whole main_arg0_scs
/-- The gathered rows, as the kernel addresses them. -/
abbrev oM : Memref sig .scScalar .hbm S1024x64 .f32 := Memref.whole main_v2_scs
/-- The subcore's scratch for its indices. -/
abbrev sM : Memref sig .scScalar .smem S512 .i32 := Memref.whole cc1_scratch0

/-! ## The rows -/

/-- Row `r` of the gathered array, as a set of its places. -/
def rowSet (r : ℕ) : Finset S1024x64.Idx := Finset.univ.filter fun i => (i 0).val = r

/-- A place is in row `r` when its first coordinate is `r`. -/
theorem mem_rowSet (r : ℕ) (i : S1024x64.Idx) : i ∈ rowSet r ↔ (i 0).val = r := by simp only [rowSet, Finset.mem_filter, Finset.mem_univ, true_and]

/-- The scalar subcore's grid point. -/
def coordsS (c : Fin (grid1.bound 0)) : grid1.Coords := fun | 0 => c | ⟨_ + 1, h⟩ => absurd h (Nat.not_lt.2 (Nat.le_add_left _ _))

/-- The grid point's coordinate is the core. -/
theorem coordsS_val (c : Fin (grid1.bound 0)) : ((coordsS c) 0).val = c.val := rfl

/-- The first loop makes 512 trips. -/
theorem trips1 : k1_t1_loop.trips = 512 := by decide +kernel
/-- The second loop makes 512 trips. -/
theorem trips2 : k1_t2_loop.trips = 512 := by decide +kernel

/-- The row copy's destination and source, as the body spells them. -/
abbrev dstRow (c : Fin (grid1.bound 0)) (t : Fin k1_t1_loop.trips) : Memref sig .scScalar .hbm S64 .f32 :=
  (oM.slice (Rect.unit (s := S1024x64) (k1_off3 (coordsS c) t) S1x64.size (k1_off3_inb (coordsS c) t)) (fun _ => rfl)).squeeze S64 squeezes_S1x64_S64
/-- The row copy's source, the table's row that the index `w` names. -/
abbrev srcRow (w : BitVec 32) (h : k1_chk1 w) : Memref sig .scScalar .hbm S64 .f32 :=
  (tM.slice (Rect.unit (s := S100000x64) (k1_off4 w) S1x64.size (k1_off4_inb w h)) (fun _ => rfl)).squeeze S64 squeezes_S1x64_S64

/-- An index below 100000 names a row of the table, where the copy is started. -/
theorem chk1_of_lt {w : BitVec 32} (h : w.toNat < 100000) : k1_chk1 w := by
  unfold k1_chk1 k1_off4; intro a; fin_cases a
  · show w.toNat + 1 ≤ 100000; omega
  · show 0 + 64 ≤ 64; omega
/-- An index below 100000 names a row of the table, where the copy is waited for. -/
theorem chk2_of_lt {w : BitVec 32} (h : w.toNat < 100000) : k1_chk2 w := by
  unfold k1_chk2 k1_off7; intro a; fin_cases a
  · show w.toNat + 1 ≤ 100000; omega
  · show 0 + 64 ≤ 64; omega

/-- A one-row rectangle's row with its unit axis put back: place `x` is `(0, x)`. -/
theorem reshape_row (h : S64.numel = S1x64.numel) (x : S64.Idx) : Shape.reshapeEquiv h x = (ix2 (⟨0, Nat.one_pos⟩ : Fin 1) (x 0) : S1x64.Idx) :=
  Shape.reshapeEquiv_eq_of_rowMajor h (by
    rw [Shape.rowMajor_val_two, Shape.rowMajor_val_one]
    show 0 * 64 + (x 0).val = (x 0).val
    omega)

/-- Place `x` of a row copy's destination, in the array. -/
theorem dstRow_emb (c : Fin (grid1.bound 0)) (t : Fin k1_t1_loop.trips) (x : S64.Idx) (h : 512 * c.val + t.val < 1024) :
    ((dstRow c t).view.emb x : S1024x64.Idx) = ix2 ⟨512 * c.val + t.val, h⟩ (x 0) := by
  have h' : S64.numel = S1x64.numel := squeezes_S1x64_S64.numel_eq
  have e : ((dstRow c t).view.emb x : S1024x64.Idx)
      = (Rect.unit (s := S1024x64) (k1_off3 (coordsS c) t) S1x64.size (k1_off3_inb (coordsS c) t)).emb (Shape.reshapeEquiv h' x) := rfl
  rw [e, reshape_row]
  funext a
  refine Fin.ext ?_
  rw [Rect.emb_apply]
  fin_cases a
  · show k1_off3 (coordsS c) t 0 + 1 * 0 = 512 * c.val + t.val
    rw [k1_off3_eq]; show 512 * c.val + t.val + 1 * 0 = _; omega
  · show k1_off3 (coordsS c) t 1 + 1 * (x 0).val = (x 0).val
    rw [k1_off3_eq]; show 0 + 1 * (x 0).val = _; omega

/-- Place `x` of a row copy's source, in the table. -/
theorem srcRow_emb (w : BitVec 32) (h : k1_chk1 w) (hw : w.toNat < 100000) (x : S64.Idx) :
    ((srcRow w h).view.emb x : S100000x64.Idx) = ix2 (rowOf w) (x 0) := by
  have h' : S64.numel = S1x64.numel := squeezes_S1x64_S64.numel_eq
  have e : ((srcRow w h).view.emb x : S100000x64.Idx)
      = (Rect.unit (s := S100000x64) (k1_off4 w) S1x64.size (k1_off4_inb w h)).emb (Shape.reshapeEquiv h' x) := rfl
  rw [e, reshape_row]
  funext a
  refine Fin.ext ?_
  rw [Rect.emb_apply]
  fin_cases a
  · show w.toNat + 1 * 0 = w.toNat % 100000
    rw [Nat.mod_eq_of_lt hw]; omega
  · show 0 + 1 * (x 0).val = (x 0).val
    omega

/-- There are two cores. -/
theorem core_lt (c : Fin (grid1.bound 0)) : c.val < 2 := c.isLt

/-- Each copy's row lies inside the array. -/
theorem row_lt (c : Fin (grid1.bound 0)) (t : Fin k1_t1_loop.trips) : 512 * c.val + t.val < 1024 := by
  have h1 : c.val < 2 := core_lt c
  have h2 : t.val < 512 := lt_of_lt_of_eq t.isLt trips1
  omega

/-- A row copy's destination is one row of the array. -/
theorem dstRow_set (c : Fin (grid1.bound 0)) (t : Fin k1_t1_loop.trips) :
    ((dstRow c t).view.set : Finset S1024x64.Idx) = rowSet (512 * c.val + t.val) := by
  ext i
  rw [mem_rowSet]
  constructor
  · intro hi
    obtain ⟨x, -, rfl⟩ := Finset.mem_map.mp hi
    have e := dstRow_emb c t x (row_lt c t)
    rw [show ((dstRow c t).view.emb x : S1024x64.Idx) = _ from e]
  · intro hi
    refine Finset.mem_map.mpr ⟨ix1 (i 1), Finset.mem_univ _, ?_⟩
    refine (dstRow_emb c t (ix1 (i 1)) (row_lt c t)).trans ?_
    rw [eq_ix2 i]
    simp only [← hi]
    rfl

end Cert.Proof.K

end
-- ==== Proof.Gather.lean ====
/-
  The SparseCore kernel on one scalar subcore. It copies its 512 indices into scalar memory, starts one row copy per
  index on one semaphore, and waits for the 512 rows one by one.
-/
module

public import proofs.«01_k».proof.Proof.GatherRows

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (d : Dev nD) (c : Fin (grid1.bound 0))

/-- The scalar subcore's thread. -/
abbrev Sq : Thread nD τ := S d (c.castLE hcore1)

/-- The semaphores' cells: the indices' copy, the rows' copies. -/
abbrev cellI : GSem nD τ sig := (Sq d c, .dma cc1_scratch1.sem)
/-- The rows' semaphore on this subcore. -/
abbrev cellR : GSem nD τ sig := (Sq d c, .dma cc1_scratch2.sem)

/-- What one row copy puts on the semaphore. -/
abbrev NR : ℕ := (dstRow c ⟨0, by rw [trips1]; decide⟩).view.dmaCredit

variable (ids : S1024.Idx → BitVec 32) (tab : S100000x64.Idx → F .f32)

/-- What row copy `t` delivers: its row of the gathered array. -/
abbrev rowD (n : ℕ) (ids : S1024.Idx → BitVec 32) (tab : S100000x64.Idx → F .f32) (t : Fin 512) : sProp 𝕄 := b2Loc d ↦[rowSet (512 * n + t.val)]{fullShare} (gath ids tab : Buf (Elt F) (b2Loc d))

/-- A row of the array not yet copied. -/
abbrev rowB (n : ℕ) (t : Fin 512) : sProp 𝕄 := iprop(∃ f : Buf (Elt F) (b2Loc d), b2Loc d ↦[rowSet (512 * n + t.val)]{fullShare} f)

/-- The rows in flight: `k` copies issued and `u` units of their credit taken. -/
abbrev batch (k u : ℕ) : sProp 𝕄 := Transfers.Batch EC (Sq d c) (.dma cc1_scratch2.sem) (none : HIx 1) (NR c) (rowD d c.val ids tab) k u

/-- The scratch holds this subcore's indices. -/
def Loaded (f : S512.Idx → BitVec 32) : Prop := ∀ (j : Fin 512) (h : 512 * c.val + j.val < 1024), f (ix1 j) = ids (ix1 ⟨512 * c.val + j.val, h⟩)

/-- The subcore's scratch, at contents `f`. -/
abbrev sPts (f : S512.Idx → BitVec 32) : sProp 𝕄 := sM.view.loc (Sq d c) ↦{fullShare} (f : Buf (Elt F) (sM.view.loc (Sq d c)))

variable (q : PosShare TreeShare)

/-- Before trip `k` of the starting loop: `k` copies started, the rows from `k` on in hand, the table's share halved `k` times. -/
def inv1 (f : S512.Idx → BitVec 32) (k : ℕ) (_ : PUnit) : sProp 𝕄 :=
  iprop(batch d c ids tab k 0 ∗ sPts d c f
    ∗ (tM.view.loc (Sq d c) ↦{Transfers.shareDrop q k} (tab : Buf (Elt F) (tM.view.loc (Sq d c))))
    ∗ bigSep (Transfers.pending (n := 512) k) (rowB (F := F) d c.val))

/-- A row copy, landed: on its row the array is the gathered one. -/
theorem landed (t : Fin k1_t1_loop.trips) (w : BitVec 32) (h : k1_chk1 w) (hw : w.toNat < 100000)
    (hwid : w = ids (ix1 ⟨512 * c.val + t.val, row_lt c t⟩)) (fd : S1024x64.Idx → F .f32) (i : S1024x64.Idx)
    (hi : i ∈ rowSet (512 * c.val + t.val)) :
    ((dstRow c t).view.write (Elt F) fd ((ReadAs.same : ReadAs (Elt F) S64 .f32 S64 .f32).apply ((srcRow w h).view.read (Elt F) tab)) Finset.univ : S1024x64.Idx → F .f32) i
      = gath ids tab i := by
  rw [mem_rowSet] at hi
  have e := dstRow_emb c t (ix1 (i 1)) (row_lt c t)
  have e' : i = ((dstRow c t).view.emb (ix1 (i 1)) : S1024x64.Idx) := by
    rw [e, eq_ix2 i]
    simp only [← hi]
    rfl
  have h1 : ((dstRow c t).view.write (Elt F) fd ((ReadAs.same : ReadAs (Elt F) S64 .f32 S64 .f32).apply ((srcRow w h).view.read (Elt F) tab)) Finset.univ : S1024x64.Idx → F .f32)
        ((dstRow c t).view.emb (ix1 (i 1)) : S1024x64.Idx) = tab (ix2 (rowOf w) (i 1)) := by
    refine (View.write_emb_of_mem _ _ (Finset.mem_univ _)).trans ?_
    show tab ((srcRow w h).view.emb (ix1 (i 1)) : S100000x64.Idx) = _
    rw [srcRow_emb w h hw]
    rfl
  refine (congrArg _ e').trans (h1.trans ?_)
  unfold gath
  rw [hwid]
  congr 2
  congr 2
  refine congrArg _ (Fin.ext ?_)
  exact hi.symm

variable [FloatOps F]

/-- One trip of the first loop issues one more row copy. -/
theorem step1 [∀ e, Nonempty (Elt F e)] (hid : ∀ i, (ids i).toNat < 100000) (f : S512.Idx → BitVec 32) (hf : Loaded c ids f) (k : Fin k1_t1_loop.trips) :
    inv1 d c ids tab q f k.val ⟨⟩ ⊢ wp frame (wpE (defs₀ (F := F)) 𝒱₀ (Sq d c) none) Set.univ
      (k1_t1_body (F := F) (coordsS c) tM (Memref.isWhole_whole _) iM (Memref.isWhole_whole _) oM (Memref.isWhole_whole _) sM (Memref.isWhole_whole _) cc1_scratch1 cc1_scratch2 k ⟨⟩)
      (inv1 d c ids tab q f (k.val + 1)) := by
  have hk : k.val < 512 := lt_of_lt_of_eq k.isLt trips1
  unfold inv1 k1_t1_body
  iintro ⟨HB, Hs, Ht, Hrows⟩
  sl_exec
  have hr : (step1.sl.r (F := F) f k : BitVec 32) = f (ix1 ⟨k.val, hk⟩) := by
    unfold step1.sl.r
    show f ((Rect.unit (s := S512) (k1_off2 k) S1.size (k1_off2_inb k)).emb (Shape.Idx.first _)) = _
    refine congrArg f (funext fun a => Fin.ext ?_)
    rw [Rect.emb_apply]
    fin_cases a
    show k1_off2 k 0 + 1 * 0 = k.val
    rw [k1_off2_eq]; rfl
  have hwid : (step1.sl.r (F := F) f k : BitVec 32) = ids (ix1 ⟨512 * c.val + k.val, row_lt c k⟩) := hr.trans (hf ⟨k.val, hk⟩ (row_lt c k))
  have hw : (step1.sl.r (F := F) f k : BitVec 32).toNat < 100000 := by rw [hwid]; exact hid _
  have hc : k1_chk1 (step1.sl.r (F := F) f k) := chk1_of_lt hw
  iapply (wp_assume _ _ _ _ hc)
  ihave Hrows' := (Entails.of_eq (Transfers.bigSep_pending_step (rowB (F := F) d c.val) k.val hk)) $$ Hrows
  icases Hrows' with ⟨⟨%fd, Hrow⟩, Hrest⟩
  ihave Ht' := (pointsTo_share (PosShare.mem_left_op_right (Transfers.shareDrop q k.val))).1 $$ Ht
  icases Ht' with ⟨Ht, Htok⟩
  ihave Htok' := (pointsTo_split_subset (Finset.subset_univ (srcRow (step1.sl.r (F := F) f k) hc).view.set)).1 $$ Htok
  icases Htok' with ⟨Htok, -⟩
  simp only [Prog.lift, Prog.bind_op, Prog.bind_ret]
  iapply (Transfers.wp_dmaBatch EC 𝒱₀ (Sq d c) none (src := srcRow (step1.sl.r (F := F) f k) hc) (dst := dstRow c k)
    (q := (Transfers.shareDrop q k.val).right) (fs := (tab : Buf (Elt F) (tM.view.loc (Sq d c))))
    (Sd := rowSet (512 * c.val + k.val)) (fd := fd) (D := rowD d c.val ids tab)
    none (NR c) rfl (dstRow_set c k).le hk (Nat.zero_le _)
    (sep_elim_left.trans (Entails.of_eq (pointsTo_congr fun i hi => landed c ids tab k _ hc hw hwid fd i hi)))) $$ [Htok Hrow HB]
  · isplitl [Htok]; · iexact Htok
    isplitl [Hrow]; · iexact Hrow
    iexact HB
  iintro HB
  sl_step
  isplitl [HB]; · iexact HB
  isplitl [Hs]; · iexact Hs
  isplitl [Ht]; · iexact Ht
  iexact Hrest

/-- Before trip `k` of the waiting loop: `k` rows' worth of the semaphore consumed. -/
def inv2 (f : S512.Idx → BitVec 32) (O : CellTallies nD τ sig (HIx 1)) (W : Waits sig (HIx 1)) (k : ℕ) (_ : PUnit) : sProp 𝕄 :=
  iprop(levAts (K (F := F)).L (K (F := F)).lev ∗ batch d c ids tab 512 (k * NR c) ∗ sPts d c f
    ∗ ∃ W', ⌜∀ p ∈ W', p ∈ W ∨ p.2 = none⌝ ∗ owes (Sq d c) O W')

/-- One trip of the second loop waits for one row and takes its credit. -/
theorem step2 [∀ e, Nonempty (Elt F e)] (hid : ∀ i, (ids i).toNat < 100000) (f : S512.Idx → BitVec 32) (hf : Loaded c ids f)
    (O : CellTallies nD τ sig (HIx 1)) (W : Waits sig (HIx 1)) (hO : ∀ g, O g none = 0) (k : Fin k1_t2_loop.trips) :
    inv2 d c ids tab f O W k.val ⟨⟩ ⊢ wp frame (wpE (defs₀ (F := F)) 𝒱₀ (Sq d c) none) Set.univ
      (k1_t2_body (F := F) (coordsS c) tM (Memref.isWhole_whole _) iM (Memref.isWhole_whole _) oM (Memref.isWhole_whole _) sM (Memref.isWhole_whole _) cc1_scratch1 cc1_scratch2 k ⟨⟩)
      (inv2 d c ids tab f O W (k.val + 1)) := by
  have hk : k.val < 512 := lt_of_lt_of_eq k.isLt trips2
  unfold inv2 k1_t2_body
  iintro ⟨#Hlv, HB, Hs, %W', %hW', HO⟩
  sl_exec
  have hr : (step2.sl.r (F := F) f k : BitVec 32) = f (ix1 ⟨k.val, hk⟩) := by
    unfold step2.sl.r
    show f ((Rect.unit (s := S512) (k1_off5 k) S1.size (k1_off5_inb k)).emb (Shape.Idx.first _)) = _
    refine congrArg f (funext fun a => Fin.ext ?_)
    rw [Rect.emb_apply]
    fin_cases a
    show k1_off5 k 0 + 1 * 0 = k.val
    rw [k1_off5_eq]; rfl
  have hrow : 512 * c.val + k.val < 1024 := by have := core_lt c; omega
  have hw : (step2.sl.r (F := F) f k : BitVec 32).toNat < 100000 := by rw [hr, hf ⟨k.val, hk⟩ hrow]; exact hid _
  have hc : k1_chk2 (step2.sl.r (F := F) f k) := chk2_of_lt hw
  iapply (wp_assume _ _ _ _ hc)
  simp only [Prog.lift, Prog.bind_op, Prog.bind_ret]
  have hu : k.val * NR c + 1 * NR c ≤ NR c * 512 := by
    rw [Nat.one_mul, ← Nat.succ_mul, Nat.mul_comm (NR c)]; exact Nat.mul_le_mul_right _ hk
  iapply (Transfers.wp_waitBatchMulO EC 𝒱₀ (Sq d c) none none 1 (N := NR c) (D := rowD d c.val ids tab) (j := 512)
    (srcw := (tM.slice (Rect.unit (s := S100000x64) (k1_off7 (step2.sl.r (F := F) f k)) S1x64.size (k1_off7_inb _ hc)) (fun _ => rfl)).squeeze S64 squeezes_S1x64_S64)
    (dstw := (oM.slice (Rect.unit (s := S1024x64) (k1_off6 (coordsS c) k) S1x64.size (k1_off6_inb (coordsS c) k)) (fun _ => rfl)).squeeze S64 squeezes_S1x64_S64) (u := k.val * NR c)
    (Nat.one_mul (NR c)).symm hu) $$ [HB HO]
  · isplitl [HB]; · iexact HB
    isplitl [HO]; · iexact HO
    iapply ((K (F := F)).mayWait_none _ hO); iexact Hlv
  iintro ⟨HB, HO⟩
  sl_step
  isplitl []; · iexact Hlv
  isplitl [HB]; · rw [show (k.val + 1) * NR c = k.val * NR c + 1 * NR c from Nat.add_mul _ _ _]; iexact HB
  isplitl [Hs]; · iexact Hs
  iexists (insert (SemLoc.dma cc1_scratch2.sem, (none : HIx 1)) W'); isplitr
  · ipureintro; intro p hp
    rcases Finset.mem_insert.mp hp with hp | hp
    · exact .inr (hp ▸ rfl)
    · exact hW' p hp
  · iexact HO

/-- A row copy credits its semaphore by something. -/
theorem NR_pos : 0 < NR c := View.amount_pos (dstRow c ⟨0, by rw [trips1]; decide⟩).view (.dma cc1_scratch2.sem) (show 0 < S64.numel by decide)

/-! ## The kernel on one subcore -/

/-- The two subcores' halves of a share. -/
def half (n : ℕ) : PosShare TreeShare := if n = 0 then fullShare.left else fullShare.right

/-- What the call hands subcore `n`: its half share of the table and of the indices, and its 512 rows of the result; -/
def stRes (n : ℕ) : sProp 𝕄 :=
  iprop((b1Loc d ↦{half n} (tab : Buf (Elt F) (b1Loc d))) ∗ (a0Loc d ↦{half n} (ids : Buf (Elt F) (a0Loc d)))
    ∗ bigSep Finset.univ (rowB (F := F) d n))
/-- and what it takes back: the indices' half share, and the rows gathered. -/
def dnRes (n : ℕ) : sProp 𝕄 :=
  iprop((a0Loc d ↦{half n} (ids : Buf (Elt F) (a0Loc d))) ∗ bigSep Finset.univ (rowD d n ids tab))

/-- What the subcore is given may travel with a signal. -/
instance stRes_storable (n : ℕ) : BI.Storable (upEmb : UEmb _ 𝕄) (stRes d ids tab n) := by unfold stRes; infer_instance
/-- What the subcore gives back may travel with a signal. -/
instance dnRes_storable (n : ℕ) : BI.Storable (upEmb : UEmb _ 𝕄) (dnRes d ids tab n) := by unfold dnRes; infer_instance

/-- The subcore's counters at zero: the two of the kernel, and the rest. -/
theorem ownSems0_S (c : Fin τ.nSC) :
    (ownSems0 (S d c) : sProp 𝕄) = iprop(semVal (S d c, .dma cc1_scratch1.sem) 0 ∗ semVal (S d c, .dma cc1_scratch2.sem) 0
      ∗ bigSep (((ownCells (S d c)).erase (S d c, .dma cc1_scratch1.sem)).erase (S d c, .dma cc1_scratch2.sem)) fun g => semVal g 0) := by
  unfold SparseCore.Cfg.ownSems0
  rw [SparseCore.bigSep_erase' ((mem_ownCells (g := ((S d c, .dma cc1_scratch1.sem) : GSem nD τ sig))).mpr ⟨rfl, by show (SemLoc.dma cc1_scratch1.sem : SemLoc sig).isScoped .scScalar = true; decide⟩),
    SparseCore.bigSep_erase' (i := ((S d c, .dma cc1_scratch2.sem) : GSem nD τ sig)) (Finset.mem_erase.mpr ⟨fun h => absurd (congrArg (fun g : GSem nD τ sig => g.2) h)
      (show ¬ (SemLoc.dma cc1_scratch2.sem : SemLoc sig) = .dma cc1_scratch1.sem by decide),
      (mem_ownCells (g := ((S d c, .dma cc1_scratch2.sem) : GSem nD τ sig))).mpr ⟨rfl, by show (SemLoc.dma cc1_scratch2.sem : SemLoc sig).isScoped .scScalar = true; decide⟩⟩)]

/-- The subcore's buffers: the scratch, and the rest. -/
theorem ownBufs_S (c : Fin τ.nSC) :
    (ownBufs (S d c) : sProp 𝕄)
      = iprop((∃ f, (sM.view.loc (S d c) ↦{fullShare} f))
          ∗ bigSep ((ownRefs (τ := τ) (.scScalar c)).erase ((Proc.scScalar c).devRef cc1_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc1_scratch0)).mpr rfl)

/-- The copy of this subcore's indices, landed: the scratch holds them. -/
theorem loaded (f : S512.Idx → BitVec 32) (h : f = ((iM.slice (Rect.unit (s := S1024) (k1_off1 (coordsS c)) S512.size (k1_off1_inb (coordsS c))) (fun _ => rfl)).view.read (Elt F) ids : S512.Idx → BitVec 32)) :
    Loaded c ids f := by
  intro j hj
  subst h
  show ids ((Rect.unit (s := S1024) (k1_off1 (coordsS c)) S512.size (k1_off1_inb (coordsS c))).emb (ix1 j)) = _
  refine congrArg ids (funext fun a => Fin.ext ?_)
  rw [Rect.emb_apply]
  fin_cases a
  show k1_off1 (coordsS c) 0 + 1 * j.val = 512 * c.val + j.val
  rw [k1_off1_eq]; show 512 * c.val + 1 * j.val = _; omega

/-- The kernel on one subcore: from shares of the indices and the table and its own half of the rows, it ends with each row the table's row that its index names. -/
theorem body [∀ e, Nonempty (Elt F e)] (hid : ∀ i, (ids i).toNat < 100000)
    (O : CellTallies nD τ sig (HIx 1)) (W : Waits sig (HIx 1)) (hO : ∀ g, O g none = 0) :
    iprop(levAts (K (F := F)).L (K (F := F)).lev ∗ emp ∗ stRes d ids tab c.val
        ∗ scopedBufs (Sq d c) ∗ scopedSems0 (Sq d c) ∗ owes (Sq d c) O W)
      ⊢ wp frame (wpE (defs₀ (F := F)) 𝒱₀ (Sq d c) none) Set.univ
          (cc1_gather_kernel (coordsS c) tM (Memref.isWhole_whole _) iM (Memref.isWhole_whole _) oM (Memref.isWhole_whole _) sM (Memref.isWhole_whole _) cc1_scratch1 cc1_scratch2)
          fun _ => iprop(dnRes d ids tab c.val ∗ scopedBufs (Sq d c) ∗ scopedSems0 (Sq d c) ∗ ∃ W', ⌜∀ p ∈ W', p ∈ W ∨ p.2 = none⌝ ∗ owes (Sq d c) O W') := by
  simp only [cc1_gather_kernel_eq_skeleton]; unfold cc1_gather_kernel_skel
  unfold stRes
  iintro ⟨#Hlv, -, ⟨Ht, Hi, Hrows⟩, Hsb, Hss, HO⟩
  ihave Hss' := (SparseCore.Cfg.scopedSems0_S_elim (Val := Elt F) d (c.castLE hcore1)) $$ Hss
  icases Hss' with ⟨Hown, Hsubs⟩
  ihave Hown' := (Entails.of_eq (ownSems0_S (F := F) d (c.castLE hcore1))) $$ Hown
  icases Hown' with ⟨Hsem1, Hsem2, Hrest⟩
  ihave Hsb' := (SparseCore.Cfg.scopedBufs_S_elim (Val := Elt F) (facts (F := F)) d (c.castLE hcore1)) $$ Hsb
  icases Hsb' with ⟨Hob, Hvb⟩
  ihave Hob' := (Entails.of_eq (ownBufs_S (F := F) d (c.castLE hcore1))) $$ Hob
  icases Hob' with ⟨⟨%fs, Hs⟩, Hrb⟩
  ihave Hmw := ((K (F := F)).mayWaits_none (thr := Sq d c) hO) $$ Hlv
  ihave Hi' := (show (a0Loc d ↦{half c.val} (ids : Buf (Elt F) (a0Loc d)) : sProp 𝕄) ⊢ (iM.view.loc (Sq d c) ↦{half c.val} (ids : Buf (Elt F) (iM.view.loc (Sq d c)))) from .rfl) $$ Hi
  sl_exec
  have hf : Loaded c ids (View.write (Elt F) sM.view fs (body.sl.dma0 (F := F) c ids) Finset.univ) := by
    refine loaded (F := F) c ids _ ?_
    exact View.write_whole_univ _ _ _
  iapply (fupd_wp Idealize.ShloMosaic.frame _ Set.univ _ _)
  imod (Transfers.batch_alloc' (Lvl := ℕ) EC (Sq d c) (sm := .dma cc1_scratch2.sem) (none : HIx 1) (NR c) (rowD d c.val ids tab) (E := Set.univ)) $$ Hsem2 with HB
  imodintro
  sl_for (inv1 d c ids tab (half c.val) (View.write (Elt F) sM.view fs (body.sl.dma0 (F := F) c ids) Finset.univ)) $$ [HB Hs Ht Hrows]
  case region => intro k _; exact step1 d c ids tab (half c.val) hid _ hf k
  · unfold inv1
    isplitl [HB]; · iexact HB
    isplitl [Hs]; · iexact Hs
    isplitl [Ht]; · iexact Ht
    rw [Transfers.pending_zero]; iexact Hrows
  iintro %_ HI
  unfold inv1
  icases HI with ⟨HB, Hs, -, -⟩
  ihave HB := (show batch d c ids tab k1_t1_loop.trips 0 ⊢ batch d c ids tab 512 0 from Entails.of_eq (by rw [trips1])) $$ HB
  sl_for (inv2 d c ids tab (View.write (Elt F) sM.view fs (body.sl.dma0 (F := F) c ids) Finset.univ) O W) $$ [HB Hs HO]
  case region => intro k _; exact step2 d c ids tab hid _ hf O W hO k
  · unfold inv2
    isplitr; · iexact Hlv
    rw [Nat.zero_mul]
    isplitl [HB]; · iexact HB
    isplitl [Hs]; · iexact Hs
    iexists (insert (SemLoc.dma cc1_scratch1.sem, (default : HIx 1)) W); isplitr
    · ipureintro
      intro p hp
      rcases Finset.mem_insert.mp hp with hp | hp
      · exact .inr (hp ▸ rfl)
      · exact .inl hp
    · iexact HO
  iintro %_ HI
  unfold inv2
  icases HI with ⟨-, HB, Hs, %W', %hW', HO⟩
  ihave HB := (show batch d c ids tab 512 (k1_t2_loop.trips * NR c) ⊢ batch d c ids tab 512 (NR c * 512) from Entails.of_eq (by rw [trips2, Nat.mul_comm])) $$ HB
  iapply (fupd_wp Idealize.ShloMosaic.frame _ Set.univ _ _)
  imod (Transfers.batch_collect' (Lvl := ℕ) EC (Sq d c) (sm := .dma cc1_scratch2.sem) (ι := (none : HIx 1)) (N := NR c) (D := rowD d c.val ids tab) (NR_pos c)) $$ [HB] with ⟨HD, Hsem2⟩
  · iexact HB
  imodintro
  sl_step
  unfold dnRes
  isplitl [Hi' HD]
  · isplitl [Hi']; · iexact Hi'
    iexact HD
  isplitl [Hs Hvb Hrb]
  · iapply (SparseCore.Cfg.scopedBufs_S_intro (Val := Elt F) (facts (F := F)) d _)
    isplitl [Hs Hrb]
    · rw [ownBufs_S]
      isplitl [Hs]; · iexists _; iexact Hs
      iexact Hrb
    · iexact Hvb
  isplitl [Hsem1 Hsem2 Hrest Hsubs]
  · iapply (SparseCore.Cfg.scopedSems0_S_intro (Val := Elt F) d _)
    isplitl [Hsem1 Hsem2 Hrest]
    · rw [ownSems0_S]
      isplitl [Hsem1]; · iexact Hsem1
      isplitl [Hsem2]; · iexact Hsem2
      iexact Hrest
    · iexact Hsubs
  iexists W'; isplitr
  · ipureintro; exact hW'
  · iexact HO

end Cert.Proof.K

end
-- ==== Proof.Obligation.lean ====
/-
  What the SparseCore call exchanges with the TensorCore, and the launch theorem's obligation on the kernel.
-/
module

public import proofs.«01_k».proof.Proof.Gather

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (m : (ℓ : Loc nD τ sig) → Buf (Elt F) ℓ)

/-- The indices and the table at the launch. -/
abbrev idsOf (d : Dev nD) : S1024.Idx → BitVec 32 := m (a0Loc d)
/-- The embedding table that memory `m` holds. -/
abbrev tabOf (d : Dev nD) : S100000x64.Idx → F .f32 := m (a1Loc d)

/-- The call's payloads. -/
def P : (K (F := F)).Pay (nD := nD) (Val := Elt F) (Name := ℕ) (U := UU) where
  st := fun _ d c => stRes d (idsOf m d) (tabOf m d) c.val
  dn := fun _ d c => dnRes d (idsOf m d) (tabOf m d) c.val
  go := fun _ _ _ _ => iprop(emp)
  td := fun _ _ _ _ => iprop(emp)
  x := fun _ _ => iprop(emp)

/-- The payloads may travel with signals. -/
instance P_storable : (P (F := F) m).IsStorable where
  st _ d c := by unfold P; infer_instance
  dn _ d c := by unfold P; infer_instance
  go _ _ _ _ := by unfold P; infer_instance
  td _ _ _ _ := by unfold P; infer_instance

variable [FloatOps F]

/-- The scalar subcore's body, unfolded. -/
theorem defs₀_scalar (c : Fin τ.nSC) :
    defs₀ (F := F) (.scScalar c) 1 ()
      = SparseCore.onCore hcore1 (fun c => cc1_gather_kernel (coordsS c) tM (Memref.isWhole_whole _) iM (Memref.isWhole_whole _) oM (Memref.isWhole_whole _) sM (Memref.isWhole_whole _) cc1_scratch1 cc1_scratch2) ⟨⟩ c := rfl

/-- Waits that the kernel made beside those it began with are its own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation: from its payload, each scalar subcore runs the kernel and gives its payload back gathered. -/
theorem scalarObl [∀ e, Nonempty (Elt F e)] (hid : ∀ d i, (idsOf m d i).toNat < 100000) :
    (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  exact (body d (c : Fin (grid1.bound 0)) (idsOf m d) (tabOf m d) (hid d) O W hO).trans (wp_mono frame _ _ fun _ => obl_post)

end Cert.Proof.K

end
-- ==== Proof.Exchange.lean ====
/-
  What the SparseCore call takes and gives, against the arrays the TensorCore holds whole: the table and the indices go out
  in halves and the result's rows one by one; the rows come back gathered and make the whole array again.
-/
module

public import proofs.«01_k».proof.Proof.Obligation

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable (d : Dev nD)

/-- The rows of subcore `n`. -/
def rowsOf (n : ℕ) : Finset S1024x64.Idx := Finset.univ.biUnion fun t : Fin 512 => rowSet (512 * n + t.val)

/-- Half `n` of the result's rows: rows `512 n` to `512 n + 511`. -/
theorem mem_rowsOf (n : ℕ) (i : S1024x64.Idx) : i ∈ rowsOf n ↔ 512 * n ≤ (i 0).val ∧ (i 0).val < 512 * n + 512 := by
  unfold rowsOf
  simp only [Finset.mem_biUnion, Finset.mem_univ, true_and, mem_rowSet]
  constructor
  · rintro ⟨t, ht⟩; have := t.isLt; omega
  · rintro ⟨h1, h2⟩; exact ⟨⟨(i 0).val - 512 * n, by omega⟩, by show (i 0).val = 512 * n + ((i 0).val - 512 * n); omega⟩

/-- The two halves make the whole array. -/
theorem rowsOf_univ : (Finset.univ : Finset S1024x64.Idx) = rowsOf 0 ∪ rowsOf 1 := by
  ext i
  have h : (i 0).val < 1024 := (i 0).isLt
  simp only [Finset.mem_univ, Finset.mem_union, mem_rowsOf, true_iff]
  omega

/-- The two halves have no place in common. -/
theorem rowsOf_disjoint : Disjoint (rowsOf 0) (rowsOf 1) :=
  Finset.disjoint_left.mpr fun i h0 h1 => by rw [mem_rowsOf] at h0 h1; omega

/-- Two rows of one half have no place in common. -/
theorem rowSet_disjoint (n : ℕ) (t t' : Fin 512) (h : t ≠ t') : Disjoint (rowSet (512 * n + t.val)) (rowSet (512 * n + t'.val)) :=
  Finset.disjoint_left.mpr fun i h0 h1 => by
    rw [mem_rowSet] at h0 h1
    exact h (Fin.ext (by omega))

/-- Holding one half is holding its rows one by one. -/
theorem pts_rowsOf (n : ℕ) (f : Buf (Elt F) (b2Loc d)) :
    (b2Loc d ↦[rowsOf n]{fullShare} f : sProp 𝕄) = bigSep Finset.univ fun t : Fin 512 => b2Loc d ↦[rowSet (512 * n + t.val)]{fullShare} f :=
  pointsTo_biUnion (ℓ := b2Loc d) Finset.univ (fun t : Fin 512 => rowSet (512 * n + t.val)) fun t _ t' _ h => rowSet_disjoint n t t' h

/-- Holding the whole array is holding the rows of both halves one by one. -/
theorem whole_rows (f : Buf (Elt F) (b2Loc d)) :
    (b2Loc d ↦{fullShare} f : sProp 𝕄)
      = iprop((bigSep Finset.univ fun t : Fin 512 => b2Loc d ↦[rowSet (512 * 0 + t.val)]{fullShare} f)
          ∗ bigSep Finset.univ fun t : Fin 512 => b2Loc d ↦[rowSet (512 * 1 + t.val)]{fullShare} f) := by
  rw [← pts_rowsOf d 0 f, ← pts_rowsOf d 1 f]
  have h := pointsTo_union (Ix := HIx 1) (Name := ℕ) (U := UU) (Lvl := ℕ) (ℓ := b2Loc d) (q := fullShare) (f := f) rowsOf_disjoint
  rw [show (b2Loc d ↦{fullShare} f : sProp 𝕄) = (b2Loc d ↦[rowsOf 0 ∪ rowsOf 1]{fullShare} f) from by rw [← rowsOf_univ]]
  exact BI.equiv_iff.mp ⟨h.1, h.2⟩

/-- Holding an array whole is holding two half shares of it. -/
theorem whole_halves (ℓ : Loc nD τ sig) (f : Buf (Elt F) ℓ) :
    (ℓ ↦{fullShare} f : sProp 𝕄) = iprop((ℓ ↦{half 0} f) ∗ (ℓ ↦{half 1} f)) := by
  have h := pointsTo_share (Ix := HIx 1) (Name := ℕ) (U := UU) (Lvl := ℕ) (ℓ := ℓ) (I := Finset.univ) (f := f) (PosShare.mem_left_op_right fullShare)
  exact BI.equiv_iff.mp ⟨h.1, h.2⟩

variable (m : (ℓ : Loc nD τ sig) → Buf (Elt F) ℓ)

/-- Rows of known contents are rows of some contents. -/
theorem rows_given (n : ℕ) (f : Buf (Elt F) (b2Loc d)) :
    (bigSep Finset.univ fun t : Fin 512 => (b2Loc d ↦[rowSet (512 * n + t.val)]{fullShare} f : sProp 𝕄)) ⊢ bigSep Finset.univ (rowB (F := F) d n) :=
  bigSep_mono fun t _ => (show (b2Loc d ↦[rowSet (512 * n + t.val)]{fullShare} f : sProp 𝕄) ⊢ rowB (F := F) d n t by iintro H; iexists f; iexact H)

/-- What the call takes, from the three arrays whole. -/
theorem st_intro (f : Buf (Elt F) (b2Loc d)) :
    iprop((b1Loc d ↦{fullShare} (tabOf m d : Buf (Elt F) (b1Loc d))) ∗ (a0Loc d ↦{fullShare} (idsOf m d : Buf (Elt F) (a0Loc d))) ∗ (b2Loc d ↦{fullShare} f))
      ⊢ bigSep Finset.univ fun c : Fin ((K (F := F)).nCore 0) => (P m).st 0 d c := by
  show _ ⊢ bigSep (Finset.univ : Finset (Fin 2)) fun c => stRes d (idsOf m d) (tabOf m d) c.val
  rw [show (Finset.univ : Finset (Fin 2)) = {0, 1} by decide, SparseCore.bigSep_insert' (by decide), bigSep_singleton]
  show _ ⊢ iprop(stRes d (idsOf m d) (tabOf m d) 0 ∗ stRes d (idsOf m d) (tabOf m d) 1)
  unfold stRes
  rw [whole_rows, whole_halves, whole_halves]
  iintro ⟨⟨Ht0, Ht1⟩, ⟨Hi0, Hi1⟩, Hr0, Hr1⟩
  isplitl [Ht0 Hi0 Hr0]
  · isplitl [Ht0]; · iexact Ht0
    isplitl [Hi0]; · iexact Hi0
    iapply (rows_given d 0 f); iexact Hr0
  · isplitl [Ht1]; · iexact Ht1
    isplitl [Hi1]; · iexact Hi1
    iapply (rows_given d 1 f); iexact Hr1

/-- What the call gives, as two arrays whole. -/
theorem dn_elim :
    (bigSep Finset.univ fun c : Fin ((K (F := F)).nCore 0) => (P m).dn 0 d c)
      ⊢ iprop((a0Loc d ↦{fullShare} (idsOf m d : Buf (Elt F) (a0Loc d)))
          ∗ (b2Loc d ↦{fullShare} (gath (idsOf m d) (tabOf m d) : Buf (Elt F) (b2Loc d)))) := by
  show (bigSep (Finset.univ : Finset (Fin 2)) fun c => dnRes d (idsOf m d) (tabOf m d) c.val) ⊢ _
  rw [show (Finset.univ : Finset (Fin 2)) = {0, 1} by decide, SparseCore.bigSep_insert' (by decide), bigSep_singleton]
  show iprop(dnRes d (idsOf m d) (tabOf m d) 0 ∗ dnRes d (idsOf m d) (tabOf m d) 1) ⊢ _
  unfold dnRes
  rw [whole_rows, whole_halves (a0Loc d)]
  iintro ⟨⟨Hi0, Hr0⟩, Hi1, Hr1⟩
  isplitl [Hi0 Hi1]
  · isplitl [Hi0]; · iexact Hi0
    iexact Hi1
  · isplitl [Hr0]; · iexact Hr0
    iexact Hr1

end Cert.Proof.K

end
-- ==== Proof.Region0.lean ====
/-
  The first TensorCore region: it leaves in `v1` the transpose of what it finds in `v0`.
-/
module

public import proofs.«01_k».proof.Proof.Region
public import proofs.«01_k».proof.Proof.Gen.KernelIdeal.Points
public import Idealize.ShloMosaic.Lib.Pipeline.ArrRel
public import Idealize.ShloMosaic.Lib.Pipeline.ValueKit

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe

variable {F : FTy → Type}

local notation "𝕄" => MT nD τ sig (HIx 1) (Elt F) ℕ UU ℕ

variable [FloatOps F]

section
variable (d : Dev nD) (x : S64x100000.Idx → F .f32) (y₀ : S100000x64.Idx → F .f32)

/-- The region's data: the transposed table `x` in `v0`, whatever `y₀` in `v1`; at every point the body leaves the block
    of `x` that it found, transposed (past the array's end it may have found anything). -/
def rdat0 : Pipeline.RDat τ (Elt F) (HIx 1) ℕ UU ℕ cfg0 d where
  A := fun | 0 => x | 1 => y₀ | ⟨_ + 2, h⟩ => absurd h (Nat.not_lt.2 (Nat.le_add_left _ _))
  after := fun
    | 0 => fun _ Y X => X = Y
    | 1 => fun t _ X => ∃ e : S64x8192.Idx → F .f32,
        X = k0_pay1 (win0_0.fill (grid0.coords t) e ((win0_0.blk t).view.read (Elt F) x))
    | ⟨_ + 2, h⟩ => absurd h (Nat.not_lt.2 (Nat.le_add_left _ _))
  Φ := fun _ => Pipeline.scopedRest spec0 d
  q := fun _ => fullShare
  owed := fun _ => (K (F := F)).Otc d 0
  recorded := fun _ => below (F := F) d 0

/-- The body on its staging buffers: it leaves the first as it found it, and in the second the first transposed. -/
theorem body0 (i : grid0.Coords) (s0 s1 : Fin 2) (X : S64x8192.Idx → F .f32) (Y : S8192x64.Idx → F .f32)
    (Φ : PUnit → sProp 𝕄) :
    iprop((owns (d : Thread nD τ) (stage0_0 s0) fullShare X ∗ owns (d : Thread nD τ) (stage0_1 s1) fullShare Y)
        ∗ (iprop(owns (d : Thread nD τ) (stage0_0 s0) fullShare X ∗ owns (d : Thread nD τ) (stage0_1 s1) fullShare (k0_pay1 X)) -∗ Φ ⟨⟩))
      ⊢ wp frame (wpE (defs₀ (F := F)) 𝒱₀ (d : Thread nD τ) none) Set.univ
          (cc0__transpose_kernel i (stage0_0 s0) (hstage0_0 s0) (stage0_1 s1) (hstage0_1 s1)) Φ := by
  have hz : (![0, 0] : Fin 2 → Nat) = fun _ => 0 := funext fun a => by fin_cases a <;> rfl
  fin_cases s0 <;> fin_cases s1
  all_goals
    simp only [Fin.zero_eta, Fin.mk_one, stage0_0, stage0_1]
    simp only [owns_whole_eq, cc0__transpose_kernel_eq_skeleton]; unfold cc0__transpose_kernel_skel
    simp only [Prog.lift, Prog.bind_op, Prog.bind_ret]
    iintro ⟨⟨⟨%f0, %hf0, H0⟩, ⟨%f1, %hf1, H1⟩⟩, Hk⟩
    sl_steps
    iapply Hk
    erw [Memref.readAt_unit_zero (Elt F) _ hz, Memref.write_access_unit_zero_univ (Elt F) _ hz]
    isplitl [H0]
    · iexists f0; isplitr; · ipureintro; exact hf0
      iexact H0
    · iexists k0_pay1 f0; isplitr; · ipureintro; rw [hf0]
      iexact H1

/-- At each grid point the input window holds the array's block, with something past the array's end. -/
theorem finds0 (t : Fin cfg0.N) (X : S64x8192.Idx → F .f32) (h : (rdat0 d x y₀).Finds 0 t X) :
    ∃ e, X = win0_0.fill (grid0.coords t) e ((win0_0.blk t).view.read (Elt F) x) :=
  ((rdat0 d x y₀).finds_of_fetch (fetch0_0 t) X).mp h

/-- The library's obligation on the body, from the body at the point's staging buffers. -/
theorem obligation0 : (rdat0 d x y₀).BodyObligation (defs₀ (F := F)) 𝒱₀ none Set.univ := fun t Y hY => by
  rw [bigSep_W0, bigSep_W0]
  rw [show (rdat0 d x y₀).Φ t.succ = (rdat0 d x y₀).Φ t.castSucc from rfl,
    show (rdat0 d x y₀).owesAt none t.succ = (rdat0 d x y₀).owesAt none t.castSucc from rfl]
  iintro ⟨HΦ, Ho, H0, H1⟩
  iapply (body0 d (grid0.coords t) (cfg0.slots t 0) (cfg0.slots t 1) (Y 0) (Y 1) _)
  isplitl [H0 H1]
  · isplitl [H0]
    · iexact H0
    · iexact H1
  iintro ⟨H0, H1⟩
  isplitl [HΦ]; · iexact HΦ
  isplitl [Ho]; · iexact Ho
  isplitl [H0]
  · iexists (Y 0)
    isplitr; · ipureintro; exact (rfl : Y 0 = Y 0)
    iexact H0
  · iexists (k0_pay1 (Y 0))
    isplitr
    · ipureintro
      obtain ⟨e, he⟩ := finds0 d x y₀ t (Y 0) (hY 0)
      exact ⟨e, congrArg k0_pay1 he⟩
    iexact H1

/-- The transpose, index by index. -/
def flip0 (x : S64x100000.Idx → F .f32) : S100000x64.Idx → F .f32 := fun i => x (ValueIdx.ix2 (i 1) (i 0))

/-- The body's transpose, index by index. -/
theorem pay0 (v : S64x8192.Idx → F .f32) (j : S8192x64.Idx) : k0_pay1 v j = v (ValueIdx.ix2 (j 1) (j 0)) := by
  unfold k0_pay1
  pointwise
  rfl

/-- What the region leaves in `v1`. -/
theorem final0 (G : S100000x64.Idx → F .f32) [∀ e, Nonempty (Elt F e)] (hG : (rdat0 d x y₀).ArrAt 1 cfg0.N G) : G = flip0 x := by
  obtain ⟨X, hX, hA⟩ := Pipeline.RDat.ArrAt.exists_exact (rd := rdat0 d x y₀) (w := 1) (n := cfg0.N) hG
  rw [hA (fun | 0 => fun _ _ => Classical.arbitrary _ | 1 => X | ⟨_ + 2, h⟩ => absurd h (Nat.not_lt.2 (Nat.le_add_left _ _))) fun _ _ _ => rfl]
  refine Pipeline.Dat.arrAt_eq_of_covers _ 1 _ (by decide +kernel) fun t hf y => ?_
  obtain ⟨Y, -, e, he⟩ := hX t t.isLt hf
  show X t (win0_1.xinj (grid0.coords t) y) = _
  rw [he, pay0]
  have hm : win0_0.moved (grid0.coords t) (ValueIdx.ix2 (win0_1.xinj (grid0.coords t) y 1) (win0_1.xinj (grid0.coords t) y 0)) = true := by
    rw [win0_0.moved_iff]
    intro a
    match a with
    | ⟨0, _⟩ => exact (y 1).isLt
    | ⟨1, _⟩ => exact (y 0).isLt
  unfold Pipeline.Window.fill
  rw [dif_pos hm]
  unfold flip0
  rw [View.read_apply]
  show x _ = x _
  congr 1
  funext a
  match a with
  | ⟨0, _⟩ =>
    apply Fin.ext
    show ((win0_0.rect t).emb _ 0 : Nat) = ((win0_1.rect t).emb y 1 : Nat)
    rw [win0_0.rect_emb_val, win0_1.rect_emb_val]
    rfl
  | ⟨1, _⟩ =>
    apply Fin.ext
    show ((win0_0.rect t).emb _ 1 : Nat) = ((win0_1.rect t).emb y 0 : Nat)
    rw [win0_0.rect_emb_val, win0_1.rect_emb_val]
    rfl

/-- The region's arrays at entry, one by one. -/
theorem arrays0 : (rdat0 d x y₀).arrays (rdat0 d x y₀).A
    = iprop(((b0Loc d) ↦{fullShare} x) ∗ ((b1Loc d) ↦{fullShare} y₀)) := by
  unfold Pipeline.RDat.arrays
  rw [bigSep_W0, (arr_whole0 0).set_eq_univ, (arr_whole0 1).set_eq_univ]
  rfl

/-- The region's arrays at exit: the input as it was, and its transpose. -/
theorem arraysAt0 [∀ e, Nonempty (Elt F e)] : (rdat0 d x y₀).arraysAt cfg0.N
    ⊢ iprop(((b0Loc d) ↦{fullShare} x) ∗ ((b1Loc d) ↦{fullShare} flip0 x)) := by
  unfold Pipeline.RDat.arraysAt
  rw [bigSep_W0, (arr_whole0 0).set_eq_univ, (arr_whole0 1).set_eq_univ]
  iintro ⟨⟨%A, %hA, HA⟩, ⟨%G, %hG, HG⟩⟩
  rw [(rdat0 d x y₀).ArrAt_in 0 rfl] at hA
  have hG := final0 d x y₀ G hG
  subst hA hG
  isplitl [HA]
  · iexact HA
  · iexact HG
end

end Cert.Proof.K

end
-- ==== Proof.Body1.lean ====
/-
  The second TensorCore region's body, on its staging buffers.
-/
module

public import proofs.«01_k».proof.Proof.Region
public import proofs.«01_k».proof.Proof.Gen.KernelIdeal.Points
public import Idealize.ShloMosaic.Lib.Pipeline.ArrRel
public import Idealize.ShloMosaic.Lib.Pipeline.ValueKit

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe

variable {F : FTy → Type}

local notation "𝕄" => MT nD τ sig (HIx 1) (Elt F) ℕ UU ℕ

variable [FloatOps F]

section
variable (d : Dev nD)

set_option maxHeartbeats 4000000 in
/-- The body on its staging buffers: it leaves the first three as it found them, and its scores in the fourth. -/
theorem body1 (i : grid2.Coords) (s0 : Fin 1) (s1 s2 s3 : Fin 2) (X : S1024x64.Idx → F .f32) (V : S64x4096.Idx → F .f32)
    (B : S1x4096.Idx → F .f32) (Y : S4096x1024.Idx → F .f32) (Φ : PUnit → sProp 𝕄) :
    iprop((owns (d : Thread nD τ) (stage2_0 s0) fullShare X ∗ owns (d : Thread nD τ) (stage2_1 s1) fullShare V
          ∗ owns (d : Thread nD τ) (stage2_2 s2) fullShare B ∗ owns (d : Thread nD τ) (stage2_3 s3) fullShare Y)
        ∗ (iprop(owns (d : Thread nD τ) (stage2_0 s0) fullShare X ∗ owns (d : Thread nD τ) (stage2_1 s1) fullShare V
          ∗ owns (d : Thread nD τ) (stage2_2 s2) fullShare B ∗ owns (d : Thread nD τ) (stage2_3 s3) fullShare (k2_pay1 X V B)) -∗ Φ ⟨⟩))
      ⊢ wp frame (wpE (defs₀ (F := F)) 𝒱₀ (d : Thread nD τ) none) Set.univ
          (cc2__lm_head_kernel i (stage2_0 s0) (hstage2_0 s0) (stage2_1 s1) (hstage2_1 s1) (stage2_2 s2) (hstage2_2 s2)
            (stage2_3 s3) (hstage2_3 s3)) Φ := by
  have hz : (![0, 0] : Fin 2 → Nat) = fun _ => 0 := funext fun a => by fin_cases a <;> rfl
  fin_cases s0; fin_cases s1 <;> fin_cases s2 <;> fin_cases s3
  all_goals
    simp only [Fin.zero_eta, Fin.mk_one, stage2_0, stage2_1, stage2_2, stage2_3]
    simp only [owns_whole_eq, cc2__lm_head_kernel_eq_skeleton]; unfold cc2__lm_head_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    erw [Memref.readAt_unit_zero (Elt F) _ hz, Memref.readAt_unit_zero (Elt F) _ hz, Memref.readAt_unit_zero (Elt F) _ hz,
      Memref.write_access_unit_zero_univ (Elt F) _ hz]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k2_pay1 f0 f1 f2; isplitr; · ipureintro; rw [hf0, hf1, hf2]
      iexact H3

end

end Cert.Proof.K

end
-- ==== Proof.Region1.lean ====
/-
  The second TensorCore region: each entry that it leaves in `v5` is an entry of the body's product over blocks of the weights
  and the biases, of which the entry's own column is theirs.
-/
module

public import proofs.«01_k».proof.Proof.Body1
public import proofs.«01_k».proof.Proof.Gen.KernelIdeal.Points
public import Idealize.ShloMosaic.Lib.Pipeline.ArrRel
public import Idealize.ShloMosaic.Lib.Pipeline.ValueKit

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe

variable {F : FTy → Type}

local notation "𝕄" => MT nD τ sig (HIx 1) (Elt F) ℕ UU ℕ

variable [FloatOps F]

/-- What the region is shown to leave in `v5`: the entry at `(c, r)` is the body's at `(j, r)` on the whole `x` and on blocks
    whose column `j` is column `c` of the weights and of the biases. -/
def Scored (x : S1024x64.Idx → F .f32) (w : S64x100000.Idx → F .f32) (b : S1x100000.Idx → F .f32)
    (i : S100000x1024.Idx) (v : F .f32) : Prop :=
  ∃ (V : S64x4096.Idx → F .f32) (B : S1x4096.Idx → F .f32) (j : Fin 4096),
    (∀ k : Fin 64, V (ValueIdx.ix2 k j) = w (ValueIdx.ix2 k (i 0)))
      ∧ B (ValueIdx.ix2 0 j) = b (ValueIdx.ix2 0 (i 0)) ∧ v = k2_pay1 x V B (ValueIdx.ix2 j (i 1))

section
variable (d : Dev nD) (x : S1024x64.Idx → F .f32) (w : S64x100000.Idx → F .f32) (b : S1x100000.Idx → F .f32)
  (y₀ : S100000x1024.Idx → F .f32)

/-- The region's data: the gathered rows `x` in `v2`, the weights `w` in `v3`, the biases `b` in `v4`, whatever `y₀` in `v5`; at
    every point the body leaves its scores of `x` against the blocks it found (past the arrays' ends it may have found
    anything). -/
def rdat1 : Pipeline.RDat τ (Elt F) (HIx 1) ℕ UU ℕ cfg2 d where
  A := fun | 0 => x | 1 => w | 2 => b | 3 => y₀ | ⟨_ + 4, h⟩ => absurd h (Nat.not_lt.2 (Nat.le_add_left _ _))
  after := fun
    | 0 => fun _ Y X => X = Y
    | 1 => fun _ Y X => X = Y
    | 2 => fun _ Y X => X = Y
    | 3 => fun t _ X => ∃ (e₁ : S64x4096.Idx → F .f32) (e₂ : S1x4096.Idx → F .f32),
        X = k2_pay1 x (win2_1.fill (grid2.coords t) e₁ ((win2_1.blk t).view.read (Elt F) w))
          (win2_2.fill (grid2.coords t) e₂ ((win2_2.blk t).view.read (Elt F) b))
    | ⟨_ + 4, h⟩ => absurd h (Nat.not_lt.2 (Nat.le_add_left _ _))
  Φ := fun _ => Pipeline.scopedRest spec2 d
  q := fun _ => fullShare
  owed := fun _ => (K (F := F)).Otc d 1
  recorded := fun _ => below (F := F) d 1

/-- The rows' window is its whole array: fetched once, it stays what the first point found. -/
theorem finds1_0 : ∀ (n : ℕ) (t : Fin cfg2.N) (_ : t.val = n) (X : S1024x64.Idx → F .f32), (rdat1 d x w b y₀).Finds 0 t X → X = x
  | n, t, ht, X, h => by
    by_cases hf : (cfg2.win 0).fetch t = true
    · obtain ⟨e, he⟩ := ((rdat1 d x w b y₀).finds_of_fetch hf X).mp h
      rw [he]
      funext j
      have hm : win2_0.moved (grid2.coords t) j = true := (win2_0.moved_iff _ j).mpr fun a => (j a).isLt
      show win2_0.fill (grid2.coords t) e ((win2_0.blk t).view.read (Elt F) x) j = x j
      unfold Pipeline.Window.fill
      rw [dif_pos hm, View.read_apply]
      show x _ = x _
      congr 1
      funext a
      apply Fin.ext
      show ((win2_0.rect t).emb _ a : Nat) = _
      have hi : win2_0.index t a = 0 := by
        match a with
        | ⟨0, _⟩ => rfl
        | ⟨1, _⟩ => rfl
      rw [win2_0.rect_emb_val_of_index_zero t a hi]
    · have h0 : t.val ≠ 0 := fun h0 => hf ((fetch2_0 t).mpr (by rw [h0]))
      rcases ((rdat1 d x w b y₀).finds_of_pos (by simpa using hf) h0 X).mp h with hfl | ⟨Y, hY, hXY⟩
      · exact absurd hfl (by simp [Pipeline.Window.flush])
      · have hXY : X = Y := hXY
        rw [hXY]
        exact finds1_0 (n - 1) _ (by rw [← ht]) Y hY
termination_by n => n
decreasing_by omega

/-- At each grid point the weights' window holds the array's block, with something past the array's end. -/
theorem finds1_1 (t : Fin cfg2.N) (X : S64x4096.Idx → F .f32) (h : (rdat1 d x w b y₀).Finds 1 t X) :
    ∃ e, X = win2_1.fill (grid2.coords t) e ((win2_1.blk t).view.read (Elt F) w) :=
  ((rdat1 d x w b y₀).finds_of_fetch (fetch2_1 t) X).mp h

/-- At each grid point the biases' window holds the array's block, with something past the array's end. -/
theorem finds1_2 (t : Fin cfg2.N) (X : S1x4096.Idx → F .f32) (h : (rdat1 d x w b y₀).Finds 2 t X) :
    ∃ e, X = win2_2.fill (grid2.coords t) e ((win2_2.blk t).view.read (Elt F) b) :=
  ((rdat1 d x w b y₀).finds_of_fetch (fetch2_2 t) X).mp h

/-- The library's obligation on the body, from the body at the point's staging buffers. -/
theorem obligation1 : (rdat1 d x w b y₀).BodyObligation (defs₀ (F := F)) 𝒱₀ none Set.univ := fun t Y hY => by
  rw [bigSep_W2, bigSep_W2]
  rw [show (rdat1 d x w b y₀).Φ t.succ = (rdat1 d x w b y₀).Φ t.castSucc from rfl,
    show (rdat1 d x w b y₀).owesAt none t.succ = (rdat1 d x w b y₀).owesAt none t.castSucc from rfl]
  iintro ⟨HΦ, Ho, H0, H1, H2, H3⟩
  iapply (body1 d (grid2.coords t) (cfg2.slots t 0) (cfg2.slots t 1) (cfg2.slots t 2) (cfg2.slots t 3) (Y 0) (Y 1) (Y 2) (Y 3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · iexists (Y 0)
    isplitr; · ipureintro; exact (rfl : Y 0 = Y 0)
    iexact H0
  isplitl [H1]
  · iexists (Y 1)
    isplitr; · ipureintro; exact (rfl : Y 1 = Y 1)
    iexact H1
  isplitl [H2]
  · iexists (Y 2)
    isplitr; · ipureintro; exact (rfl : Y 2 = Y 2)
    iexact H2
  · iexists (k2_pay1 (Y 0) (Y 1) (Y 2))
    isplitr
    · ipureintro
      have h0 := finds1_0 d x w b y₀ t.val t rfl (Y 0) (hY 0)
      obtain ⟨e₁, h1⟩ := finds1_1 d x w b y₀ t (Y 1) (hY 1)
      obtain ⟨e₂, h2⟩ := finds1_2 d x w b y₀ t (Y 2) (hY 2)
      exact ⟨e₁, e₂, by rw [h0, h1, h2]⟩
    iexact H3

/-- What the region leaves in `v5`. -/
theorem final1 (G : S100000x1024.Idx → F .f32) [∀ e, Nonempty (Elt F e)] (hG : (rdat1 d x w b y₀).ArrAt 3 cfg2.N G)
    (i : S100000x1024.Idx) : Scored x w b i (G i) := by
  obtain ⟨X, hX, hA⟩ := Pipeline.RDat.ArrAt.exists_exact (rd := rdat1 d x w b y₀) (w := 3) (n := cfg2.N) hG
  obtain ⟨after, hafter, hG⟩ : ∃ after, after 3 = X ∧ G = ((rdat1 d x w b y₀).withAfter after).arrAt 3 cfg2.N :=
    ⟨fun
      | 0 => fun _ _ => Classical.arbitrary _
      | 1 => fun _ _ => Classical.arbitrary _
      | 2 => fun _ _ => Classical.arbitrary _
      | 3 => X
      | ⟨_ + 4, h⟩ => absurd h (Nat.not_lt.2 (Nat.le_add_left _ _)), rfl, hA _ fun _ _ _ => rfl⟩
  rw [hG]
  have hcov : (cfg2.win 3).Covers := by decide +kernel
  refine Pipeline.Dat.arrAt_forall_of_covers ((rdat1 d x w b y₀).withAfter after) 3 (fun i v => Scored x w b i v) hcov (fun t hf y => ?_) i (Memref.isWhole_whole _)
  obtain ⟨Y, -, e₁, e₂, he⟩ := hX t t.isLt hf
  show Scored x w b _ (after 3 t (win2_3.xinj (grid2.coords t) y))
  rw [hafter, he]
  refine ⟨win2_1.fill (grid2.coords t) e₁ ((win2_1.blk t).view.read (Elt F) w),
    win2_2.fill (grid2.coords t) e₂ ((win2_2.blk t).view.read (Elt F) b), win2_3.xinj (grid2.coords t) y 0, fun k => ?_, ?_, ?_⟩
  · have hm : win2_1.moved (grid2.coords t) (ValueIdx.ix2 k (win2_3.xinj (grid2.coords t) y 0)) = true := by
      rw [win2_1.moved_iff]
      intro a
      match a with
      | ⟨0, _⟩ => exact Fin.isLt _
      | ⟨1, _⟩ => exact (y 0).isLt
    unfold Pipeline.Window.fill
    rw [dif_pos hm, View.read_apply]
    show w _ = w _
    congr 1
    funext a
    match a with
    | ⟨0, _⟩ =>
      apply Fin.ext
      show ((win2_1.rect t).emb _ 0 : Nat) = _
      rw [win2_1.rect_emb_val_of_index_zero t 0 rfl]
      rfl
    | ⟨1, _⟩ =>
      apply Fin.ext
      show ((win2_1.rect t).emb _ 1 : Nat) = ((win2_3.rect t).emb y 0 : Nat)
      rw [win2_1.rect_emb_val, win2_3.rect_emb_val]
      rfl
  · have hm : win2_2.moved (grid2.coords t) (ValueIdx.ix2 0 (win2_3.xinj (grid2.coords t) y 0)) = true := by
      rw [win2_2.moved_iff]
      intro a
      match a with
      | ⟨0, _⟩ => exact Fin.isLt _
      | ⟨1, _⟩ => exact (y 0).isLt
    unfold Pipeline.Window.fill
    rw [dif_pos hm, View.read_apply]
    show b _ = b _
    congr 1
    funext a
    match a with
    | ⟨0, _⟩ =>
      apply Fin.ext
      show ((win2_2.rect t).emb _ 0 : Nat) = _
      rw [win2_2.rect_emb_val_of_index_zero t 0 rfl]
      rfl
    | ⟨1, _⟩ =>
      apply Fin.ext
      show ((win2_2.rect t).emb _ 1 : Nat) = ((win2_3.rect t).emb y 0 : Nat)
      rw [win2_2.rect_emb_val, win2_3.rect_emb_val]
      rfl
  · congr 1
    funext a
    match a with
    | ⟨0, _⟩ => rfl
    | ⟨1, _⟩ =>
      apply Fin.ext
      show (y 1 : Nat) = ((win2_3.rect t).emb y 1 : Nat)
      rw [win2_3.rect_emb_val_of_index_zero t 1 rfl]

/-- The region's arrays at entry, one by one. -/
theorem arrays1 : (rdat1 d x w b y₀).arrays (rdat1 d x w b y₀).A
    = iprop(((b2Loc d) ↦{fullShare} x) ∗ ((b3Loc d) ↦{fullShare} w) ∗ ((b4Loc d) ↦{fullShare} b) ∗ ((b5Loc d) ↦{fullShare} y₀)) := by
  unfold Pipeline.RDat.arrays
  rw [bigSep_W2, (arr_whole2 0).set_eq_univ, (arr_whole2 1).set_eq_univ, (arr_whole2 2).set_eq_univ, (arr_whole2 3).set_eq_univ]
  rfl

/-- The region's arrays at exit: the inputs as they were, and a result each of whose entries is scored. -/
theorem arraysAt1 [∀ e, Nonempty (Elt F e)] : (rdat1 d x w b y₀).arraysAt cfg2.N
    ⊢ iprop(((b2Loc d) ↦{fullShare} x) ∗ ((b3Loc d) ↦{fullShare} w) ∗ ((b4Loc d) ↦{fullShare} b)
        ∗ ∃ G, ⌜∀ i, Scored x w b i (G i)⌝ ∗ ((b5Loc d) ↦{fullShare} G)) := by
  unfold Pipeline.RDat.arraysAt
  rw [bigSep_W2, (arr_whole2 0).set_eq_univ, (arr_whole2 1).set_eq_univ, (arr_whole2 2).set_eq_univ, (arr_whole2 3).set_eq_univ]
  iintro ⟨⟨%A, %hA, HA⟩, ⟨%A', %hA', HA'⟩, ⟨%A'', %hA'', HA''⟩, ⟨%G, %hG, HG⟩⟩
  rw [(rdat1 d x w b y₀).ArrAt_in 0 rfl] at hA
  rw [(rdat1 d x w b y₀).ArrAt_in 1 rfl] at hA'
  rw [(rdat1 d x w b y₀).ArrAt_in 2 rfl] at hA''
  have hA : A = x := hA
  have hA' : A' = w := hA'
  have hA'' : A'' = b := hA''
  rw [hA, hA', hA'']
  isplitl [HA]
  · iexact HA
  isplitl [HA']
  · iexact HA'
  isplitl [HA'']
  · iexact HA''
  · iexists G
    isplitr; · ipureintro; exact final1 d x w b y₀ G hG
    iexact HG
end

end Cert.Proof.K

end
-- ==== Proof.Ghost.lean ====
/-
  The arrays that the two TensorCore regions meet, their entry and exit stated on the whole arrays, and the ghost state that
  the run starts from.
-/
module

public import proofs.«01_k».proof.Proof.Steps
public import proofs.«01_k».proof.Proof.Exchange
public import proofs.«01_k».proof.Proof.Region0
public import proofs.«01_k».proof.Proof.Region1

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.StableHlo (held wp_hlo_within)

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The host's layouts of the arguments -/

/-- The embedding table, the head's matrix, and the head's bias as the program lays them out. -/
def xT (d : Dev nD) : S64x100000.Idx → F .f32 := transpose S64x100000 [1, 0] (m (a1Loc d) : S100000x64.Idx → F .f32) transposes_S100000x64_S64x100000_1_0
/-- The head's matrix, transposed. -/
def wT (d : Dev nD) : S64x100000.Idx → F .f32 := transpose S64x100000 [1, 0] (m (a2Loc d) : S100000x64.Idx → F .f32) transposes_S100000x64_S64x100000_1_0
/-- The head's bias, as a row. -/
def bR (d : Dev nD) : S1x100000.Idx → F .f32 := shapeCast S1x100000 (m (a3Loc d) : S100000.Idx → F .f32) shapeCasts_S100000_S1x100000
/-- The result's layout. -/
def outT (G : S100000x1024.Idx → F .f32) : S1024x100000.Idx → F .f32 := transpose S1024x100000 [1, 0] G transposes_S100000x1024_S1024x100000_1_0

/-- The transposed table at a place is the table at the place with its coordinates exchanged. -/
theorem xT_apply (d : Dev nD) (i : S64x100000.Idx) : xT m d i = tabOf m d (ValueIdx.ix2 (i 1) (i 0)) := by
  unfold xT
  pointwise
  rfl

/-- The first region undoes the host's transpose: it leaves the table. -/
theorem flip_xT (d : Dev nD) : flip0 (xT m d) = tabOf m d := by
  funext i
  unfold flip0
  rw [xT_apply]
  refine congrArg (tabOf m d) (funext fun a => ?_)
  match a with
  | ⟨0, _⟩ => rfl
  | ⟨1, _⟩ => rfl

/-! ## The regions -/

/-- The two regions' data: the arrays as the program meets them. -/
def datas : (p : Fin 2) → (d : Dev nD) → RD (F := F) p d
  | 0 => fun d => rdat0 d (xT m d) (m (b1Loc d))
  | 1 => fun d => rdat1 d (gath (idsOf m d) (tabOf m d)) (wT m d) (bR m d) (m (b5Loc d))
  | ⟨_ + 2, h⟩ => absurd h (Nat.not_lt.2 (Nat.le_add_left _ _))

/-- The first region, over its data. -/
def R0 := seg (datas m) 0 0 (launch0.toP) rfl (fun d => obligation0 d (xT m d) (m (b1Loc d))) (fun _ _ => rfl) (fun _ _ => rfl) (fun _ _ => rfl)
/-- The second region, over its data. -/
def R1 := seg (datas m) 1 1 (launch2.toP) rfl
  (fun d => obligation1 d (gath (idsOf m d) (tabOf m d)) (wT m d) (bR m d) (m (b5Loc d))) (fun _ _ => rfl) (fun _ _ => rfl)
  (fun d t => show (rdat1 d (gath (idsOf m d) (tabOf m d)) (wT m d) (bR m d) (m (b5Loc d))).Φ t = Pipeline.scopedRest spec2 d from rfl)

/-- The first region is entered from its two arrays held whole. -/
theorem R0_pre (d : Dev nD) : iprop((b0Loc d ↦{fullShare} xT m d) ∗ (b1Loc d ↦{fullShare} m (b1Loc d)) ∗ owing (F := F) d 0) ⊢ (R0 m).pre d := by
  show _ ⊢ iprop((rdat0 d (xT m d) (m (b1Loc d))).arrays (rdat0 d (xT m d) (m (b1Loc d))).A ∗ owing (F := F) d 0)
  rw [arrays0]
  iintro ⟨H0, H1, Ho⟩
  isplitl [H0 H1]
  · isplitl [H0]; · iexact H0
    iexact H1
  iexact Ho

/-- It leaves its result at the embedding table itself. -/
theorem R0_post [∀ e, Nonempty (Elt F e)] (d : Dev nD) :
    (R0 m).post d ⊢ iprop((b0Loc d ↦{fullShare} xT m d) ∗ (b1Loc d ↦{fullShare} (tabOf m d : Buf (Elt F) (b1Loc d))) ∗ owing (F := F) d 0) := by
  show iprop((rdat0 d (xT m d) (m (b1Loc d))).arraysAt cfg0.N ∗ owing (F := F) d 0) ⊢ _
  iintro ⟨Ha, Ho⟩
  ihave H := (arraysAt0 d (xT m d) (m (b1Loc d))) $$ Ha
  rw [flip_xT]
  icases H with ⟨H0, H1⟩
  isplitl [H0]; · iexact H0
  isplitl [H1]; · iexact H1
  iexact Ho

/-- The second region is entered from the gathered rows, the transposed matrix, the bias row and its result array. -/
theorem R1_pre (d : Dev nD) : iprop((b2Loc d ↦{fullShare} (gath (idsOf m d) (tabOf m d) : Buf (Elt F) (b2Loc d))) ∗ (b3Loc d ↦{fullShare} wT m d) ∗ (b4Loc d ↦{fullShare} bR m d)
      ∗ (b5Loc d ↦{fullShare} m (b5Loc d)) ∗ owing (F := F) d 1) ⊢ (R1 m).pre d := by
  show _ ⊢ iprop((rdat1 d (gath (idsOf m d) (tabOf m d)) (wT m d) (bR m d) (m (b5Loc d))).arrays (rdat1 d (gath (idsOf m d) (tabOf m d)) (wT m d) (bR m d) (m (b5Loc d))).A
    ∗ owing (F := F) d 1)
  rw [arrays1]
  iintro ⟨H2, H3, H4, H5, Ho⟩
  isplitr [Ho]
  · isplitl [H2]; · iexact H2
    isplitl [H3]; · iexact H3
    isplitl [H4]; · iexact H4
    iexact H5
  iexact Ho

/-- What is shown of the scores. -/
def Good (d : Dev nD) (G : S100000x1024.Idx → F .f32) : Prop := ∀ i, Scored (gath (idsOf m d) (tabOf m d)) (wT m d) (bR m d) i (G i)

/-- It leaves in its result array scores as described by `Good`. -/
theorem R1_post [∀ e, Nonempty (Elt F e)] (d : Dev nD) :
    (R1 m).post d ⊢ iprop((∃ G, ⌜Good m d G⌝ ∗ (b5Loc d ↦{fullShare} (G : Buf (Elt F) (b5Loc d)))) ∗ owing (F := F) d 1) := by
  show iprop((rdat1 d (gath (idsOf m d) (tabOf m d)) (wT m d) (bR m d) (m (b5Loc d))).arraysAt cfg2.N ∗ owing (F := F) d 1) ⊢ _
  iintro ⟨Ha, Ho⟩
  ihave H := (arraysAt1 d (gath (idsOf m d) (tabOf m d)) (wT m d) (bR m d) (m (b5Loc d))) $$ Ha
  icases H with ⟨-, -, -, %G, %hG, H5⟩
  isplitl [H5]
  · iexists G
    isplitr; · ipureintro; exact hG
    iexact H5
  iexact Ho

/-! ## The launch element: the handshakes' rounds, the regions' rounds -/

/-- The ghost state at launch: the handshakes', the regions', and the counters'. -/
def u₀ : UU := (initOf (K (F := F)).hsCells (K (F := F)).hsToks,
  (initOf (Pipeline.cells (Pipeline.pin (pcfgs (F := F)) aP) (cells_inj (F := F))) (Pipeline.launchToks (Pipeline.pin (pcfgs (F := F)) aP) (cells_inj (F := F))), 1))

/-- What the regions need of it on one device. -/
def G (d : Dev nD) : sProp 𝕄 :=
  iprop((bigSep Finset.univ fun p : Fin 2 => Pipeline.cellsGhost (Pipeline.pin (pcfgs (F := F)) aP) EP p d)
    ∗ (bigSep Finset.univ fun p : Fin 2 => Pipeline.toksInit (Pipeline.pin (pcfgs (F := F)) aP) EP p d))

/-- One device's share is one piece for each region. -/
theorem G_split (d : Dev nD) : G (F := F) d ⊢ iprop(regionGhost (F := F) 0 d ∗ regionGhost (F := F) 1 d) := by
  unfold G
  rw [show (Finset.univ : Finset (Fin 2)) = {0, 1} by decide, SparseCore.bigSep_insert' (by decide), bigSep_singleton, SparseCore.bigSep_insert' (by decide), bigSep_singleton]
  iintro ⟨⟨Hc0, Hc1⟩, Ht0, Ht1⟩
  isplitl [Hc0 Ht0]
  · isplitl [Hc0]; · iexact Hc0
    iexact Ht0
  · isplitl [Hc1]; · iexact Hc1
    iexact Ht1

/-- A product of nothing is nothing. -/
theorem bigSep_emp' {I : Type} (s : Finset I) : (bigSep s fun _ => iprop(emp)) = (iprop(emp) : sProp 𝕄) := bigSep_emp_const s

/-- The kernel asks nothing of the ghost state for its threads. -/
theorem emp_threads : (bigSep Finset.univ fun thr : Thread nD τ => bigSep Finset.univ fun q : Fin 1 => (P m).x q thr) = (iprop(emp) : sProp 𝕄) := by
  show (bigSep Finset.univ fun _ : Thread nD τ => bigSep Finset.univ fun _ : Fin 1 => (iprop(emp) : sProp 𝕄)) = _
  rw [bigSep_congr fun _ _ => bigSep_emp' _, bigSep_emp']

/-- The launch's ghost state splits into what the handshakes and the regions need. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  rw [emp_threads]
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) aP) EP (cells_inj (F := F))) $$ HP with HG
  imodintro
  isplitl [HH]; · iexact HH
  isplitl [HG]
  · unfold G
    rw [bigSep_sep']
    iexact HG
  iempintro

end Cert.Proof.K

end
-- ==== Proof.Run.lean ====
/-
  The kernel's main program on the TensorCore, and the program's run from its launch.
-/
module

public import proofs.«01_k».proof.Proof.Ghost

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.TcCoe
open Idealize.ShloMosaic.StableHlo (held wp_hlo_within)

variable {F : FTy → Type}

local notation "𝕄" => MT nD τ sig (HIx 1) (Elt F) ℕ UU ℕ

variable [FloatOps F]

variable (m : (ℓ : Loc nD τ sig) → Buf (Elt F) ℓ) (ρ : Dev nD → PrngReg)

/-- What the core owes the launch, taken out of its state and put back. -/
theorem tcSt_open (d : Dev nD) (n : ℕ) :
    ((K (F := F)).tcSt EH d n : sProp 𝕄) ⊢ iprop(owing (F := F) d n ∗ (owing (F := F) d n -∗ (K (F := F)).tcSt EH d n)) := by
  show iprop(owing (F := F) d n ∗ _) ⊢ iprop(_ ∗ (_ -∗ iprop(owing (F := F) d n ∗ _)))
  iintro ⟨Ho, Hr⟩
  isplitl [Ho]; · iexact Ho
  iintro Ho
  isplitl [Ho]; · iexact Ho
  iexact Hr

/-- The TensorCore's arrays, one by one. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (b0Loc d ↦{fullShare} W main_v0) ∗ (b1Loc d ↦{fullShare} W main_v1) ∗ (b2Loc d ↦{fullShare} W main_v2)
      ∗ (b3Loc d ↦{fullShare} W main_v3) ∗ (b4Loc d ↦{fullShare} W main_v4) ∗ (b5Loc d ↦{fullShare} W main_v5) ∗ (b6Loc d ↦{fullShare} W main_v6)) := by
  unfold unscopedBufs
  rw [show (Finset.univ.filter fun b : Ref sig .tc => ¬ b.isScoped) = {main_arg0, main_arg1, main_arg2, main_arg3, main_v0, main_v1, main_v2, main_v3, main_v4, main_v5, main_v6} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What the main program leaves the claim: the arguments as they were, and the scores. -/
def FIN (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d))
    ∗ ∃ G, ⌜Good m d G⌝ ∗ (b6Loc d ↦{fullShare} (outT G : Buf (Elt F) (b6Loc d))))

/-- The main program on the TensorCore, from its launch to its end, where it holds the arguments as they were and the scores. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hheld, Hts, -⟩, HG⟩
  ihave Hlev := (SparseCore.Cfg.ctx_levAts κ) $$ Hctx
  icases Hlev with #Hlev
  ihave Hh := (Entails.of_eq (unscopedBufs_eq (F := F) d _)) $$ Hheld
  icases Hh with ⟨Ha0, Ha1, Ha2, Ha3, H0, H1, H2, H3, H4, H5, H6⟩
  ihave HG' := (G_split (F := F) d) $$ HG
  icases HG' with ⟨HG0, HG1⟩
  -- the table, transposed by the host
  iapply (step_hlo d m main_arg1 main_v0 _ rfl rfl rfl (by decide) (m (a1Loc d)) (m (b0Loc d)) (xT m d)
    (fun W hW => by rw [StableHlo.unary_result, hW]; rfl) _)
  isplitl [Hb]; · iexact Hb
  isplitl [Ha1]; · iexact Ha1
  isplitl [H0]; · iexact H0
  iintro ⟨Hb, Ha1, H0⟩
  -- and transposed back by the first region
  ihave Hst' := (tcSt_open (F := F) d 0) $$ Hst
  icases Hst' with ⟨Ho, Hst⟩
  iapply (step_region d (datas m) 0 (R0 m) _)
  isplitl [Hb]; · iexact Hb
  isplitl [H0 H1 Ho]
  · iapply (R0_pre m d)
    isplitl [H0]; · iexact H0
    isplitl [H1]; · iexact H1
    iexact Ho
  isplitr; · iexact Hlev
  isplitl [HG0]; · iexact HG0
  iintro ⟨Hb, Hpost⟩
  ihave Hp := (R0_post m d) $$ Hpost
  icases Hp with ⟨-, H1, Ho⟩
  ihave Hst := Hst $$ Ho
  -- the gather
  iapply ((K (F := F)).wp_run (D (F := F)) 𝒱 (EH := EH) (P := P m) κ d 0) $$ [Hst Ha0 Ha1 Ha2 Ha3 Hb H1 H2 H3 H4 H5 H6 Hts HG1]
  isplitr; · iexact Hctx
  isplitl [Hst]; · iexact Hst
  isplitl [H1 Ha0 H2]
  · iapply (st_intro d m _)
    isplitl [H1]; · iexact H1
    isplitl [Ha0]; · iexact Ha0
    iexact H2
  iintro ⟨Hst, Hdn⟩
  ihave Hdn' := (dn_elim d m) $$ Hdn
  icases Hdn' with ⟨Ha0, H2⟩
  ihave Hst := (show ((K (F := F)).tcSt EH d ((0 : Fin 1).val + 1) : sProp 𝕄) ⊢ (K (F := F)).tcSt EH d 1 from .rfl) $$ Hst
  -- the head's matrix and bias, laid out by the host
  iapply (step_hlo d m main_arg2 main_v3 _ rfl rfl rfl (by decide) (m (a2Loc d)) (m (b3Loc d)) (wT m d)
    (fun W hW => by rw [StableHlo.unary_result, hW]; rfl) _)
  isplitl [Hb]; · iexact Hb
  isplitl [Ha2]; · iexact Ha2
  isplitl [H3]; · iexact H3
  iintro ⟨Hb, Ha2, H3⟩
  iapply (step_hlo d m main_arg3 main_v4 _ rfl rfl rfl (by decide) (m (a3Loc d)) (m (b4Loc d)) (bR m d)
    (fun W hW => by rw [StableHlo.reshape_result, hW]; rfl) _)
  isplitl [Hb]; · iexact Hb
  isplitl [Ha3]; · iexact Ha3
  isplitl [H4]; · iexact H4
  iintro ⟨Hb, Ha3, H4⟩
  -- the scores
  ihave Hst' := (tcSt_open (F := F) d 1) $$ Hst
  icases Hst' with ⟨Ho, Hst⟩
  iapply (step_region d (datas m) 1 (R1 m) _)
  isplitl [Hb]; · iexact Hb
  isplitl [H2 H3 H4 H5 Ho]
  · iapply (R1_pre m d)
    isplitl [H2]; · iexact H2
    isplitl [H3]; · iexact H3
    isplitl [H4]; · iexact H4
    isplitl [H5]; · iexact H5
    iexact Ho
  isplitr; · iexact Hlev
  isplitl [HG1]; · iexact HG1
  iintro ⟨Hb, Hpost⟩
  ihave Hp := (R1_post m d) $$ Hpost
  icases Hp with ⟨⟨%S, %hS, H5⟩, Ho⟩
  ihave Hst := Hst $$ Ho
  -- and their transpose
  iapply (step_hlo d m main_v5 main_v6 _ rfl rfl rfl (by decide) S (m (b6Loc d)) (outT S)
    (fun W hW => by rw [StableHlo.unary_result, hW]; rfl) _)
  isplitl [Hb]; · iexact Hb
  isplitl [H5]; · iexact H5
  isplitl [H6]; · iexact H6
  iintro ⟨Hb, -, H6⟩
  imodintro
  isplitl [Hst]; · iexact Hst
  isplitr [Hb Hts]
  · unfold FIN
    isplitl [Ha0]; · iexact Ha0
    isplitl [Ha1]; · iexact Ha1
    isplitl [Ha2]; · iexact Ha2
    isplitl [Ha3]; · iexact Ha3
    iexists S
    isplitr; · ipureintro; exact hS
    iexact H6
  isplitl [Hb] <;> iassumption

/-- What the final memory holds on one device. -/
def fq (d : Dev nD) (s' : Phys nD τ sig (Elt F)) : Prop :=
  (s'.mem.mem (a0Loc d) = m (a0Loc d) ∧ s'.mem.mem (a1Loc d) = m (a1Loc d) ∧ s'.mem.mem (a2Loc d) = m (a2Loc d) ∧ s'.mem.mem (a3Loc d) = m (a3Loc d))
    ∧ ∃ G, Good m d G ∧ s'.mem.mem (b6Loc d) = (outT G : Buf (Elt F) (b6Loc d))

/-- What is held of an array is what the memory has there. -/
theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  icombine HSI Hx gives %hx
  isplitr
  · ipureintro; exact funext fun i => hx i (Finset.mem_univ i)
  iexact HSI

/-- What the TensorCore holds at its end, read off the final memory. -/
theorem hfin (d : Dev nD) (s' : Phys nD τ sig (Elt F)) : iprop(FIN m d ∗ SI s') ⊢ (⌜fq m d s'⌝ : sProp 𝕄) := by
  unfold FIN
  iintro ⟨⟨H0, H1, H2, H3, %G, %hG, H6⟩, HSI⟩
  ihave H := (agree (F := F) (a0Loc d) _ s') $$ [H0 HSI]
  · isplitl [H0] <;> iassumption
  icases H with ⟨%h0, HSI⟩
  ihave H := (agree (F := F) (a1Loc d) _ s') $$ [H1 HSI]
  · isplitl [H1] <;> iassumption
  icases H with ⟨%h1, HSI⟩
  ihave H := (agree (F := F) (a2Loc d) _ s') $$ [H2 HSI]
  · isplitl [H2] <;> iassumption
  icases H with ⟨%h2, HSI⟩
  ihave H := (agree (F := F) (a3Loc d) _ s') $$ [H3 HSI]
  · isplitl [H3] <;> iassumption
  icases H with ⟨%h3, HSI⟩
  ihave H := (agree (F := F) (b6Loc d) _ s') $$ [H6 HSI]
  · isplitl [H6] <;> iassumption
  icases H with ⟨%h6, -⟩
  ipureintro
  exact ⟨⟨h0, h1, h2, h3⟩, G, hG, h6⟩

/-! ## The program's run -/

/-- The final state: arguments unchanged, the result the layout of scores as described by `Good`, every semaphore at zero. -/
def QC : PUnit × MemSt nD τ sig (Elt F) → Prop := fun r =>
  (∀ d : Dev nD, (r.2.mem (a0Loc d) = m (a0Loc d) ∧ r.2.mem (a1Loc d) = m (a1Loc d) ∧ r.2.mem (a2Loc d) = m (a2Loc d) ∧ r.2.mem (a3Loc d) = m (a3Loc d))
      ∧ ∃ G, Good m d G ∧ r.2.mem (b6Loc d) = (outT G : Buf (Elt F) (b6Loc d)))
    ∧ r.2.sem = fun _ => 0

/-- The run: from every memory whose ids name rows, the program ends in such a state. -/
theorem run_main [∀ e, Nonempty (Elt F e)] (hid : ∀ d i, (idsOf m d i).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hid)
    (fun q hq => match q with | 0 => nomatch hq)
    (fun q hq => match q with | 0 => nomatch hq)
    m ρ main (G (F := F)) (FIN m) (u₀ (F := F)) (sep_elim_left.trans (hu₀ m)) (hmain m ρ) (fq m) (hfin m) (QC m) (fun _ h hz => ⟨h, hz⟩)

end Cert.Proof.K

end
-- ==== Proof.Reference.lean ====
/-
  The reference's run: a line of host operations, which ends with its arguments unchanged and its result at one term of
  them.
-/
module

public import proofs.«01_k».proof.ReferenceIdeal
public import proofs.«01_k».proof.Proof.Gen.ReferenceIdeal
public import Idealize.ShloMosaic.Lib.StableHlo.Run
public import Idealize.ShloMosaic.Lib.Quiescent
public import Idealize.ShloMosaic.Lib.ReduceAll
public import Idealize.ShloMosaic.Lib.Tactic

@[expose] public section

noncomputable section

namespace Cert.Proof.R

open Cert.ReferenceIdeal Cert.ReferenceIdeal.Gen
open Idealize.ShloMosaic Idealize.SL.Sem
open Idealize.ShloMosaic.StableHlo
open Idealize.ShloMosaic.TcCoe

variable {F : FTy → Type} [FloatOps F]

/-- @main's operations in order, those of the outlined `take` first. -/
abbrev ops : List (HloOp τ sig (Elt F)) :=
  [ TRef.nullary main_call0.c (constantI S_ 32 0#32),
    TRef.unary main_call0.c main_call0.v0 (broadcastInDim S1024 ![] bcast_S_S1024),
    TRef.binary (.of main_arg0) main_call0.v0 main_call0.v1 (cmpi .slt),
    TRef.nullary main_call0.c_0 (constantI S_ 32 100000#32),
    TRef.unary main_call0.c_0 main_call0.v2 (broadcastInDim S1024 ![] bcast_S_S1024),
    TRef.binary (.of main_arg0) main_call0.v2 main_call0.v3 addi,
    TRef.ternary main_call0.v1 main_call0.v3 (.of main_arg0) main_call0.call0.v0 select,
    TRef.unary main_call0.call0.v0 main_call0.v5 (broadcastInDim S1024x1 ![0] bcast_S1024_S1024x1_0),
    TRef.nullary main_call0.c_1 (constantI S1 32 99999#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg1) main_call0.v5 main_call0.v13 (fun x i => Host.gather gather_S100000x64_S1024x1_S1024x64_1_0_n_n_0_1_164 x i),
    TRef.unary main_call0.v12 main_call0.v14 (broadcastInDim S1024x64 ![0] bcast_S1024_S1024x64_0),
    TRef.nullary main_call0.cst (constant S_ .f32 0x7FC00000#32),
    TRef.unary main_call0.cst main_call0.v15 (broadcastInDim S1024x64 ![] bcast_S_S1024x64),
    TRef.ternary main_call0.v14 main_call0.v13 main_call0.v15 main_call0.v16 select,
    unary main_arg2 main_v1 ((transpose S64x100000 [1, 0] · transposes_S100000x64_S64x100000_1_0) : (⟨S100000x64, .f32⟩ : BufTy).Contents (Elt F) → (⟨S64x100000, .f32⟩ : BufTy).Contents (Elt F)),
    binary main_v0 main_v1 main_v2 ((fun l r => Host.dotGeneral dot_S1024x64_S64x100000_S1024x100000_1_0_0_1_n_n none l r) : (⟨S1024x64, .f32⟩ : BufTy).Contents (Elt F) → (⟨S64x100000, .f32⟩ : BufTy).Contents (Elt F) → (⟨S1024x100000, .f32⟩ : BufTy).Contents (Elt F)),
    unary main_arg3 main_v3 (broadcastInDim S1x100000 ![1] bcast_S100000_S1x100000_1 : (⟨S100000, .f32⟩ : BufTy).Contents (Elt F) → (⟨S1x100000, .f32⟩ : BufTy).Contents (Elt F)),
    unary main_v3 main_v4 (broadcastInDim S1024x100000 ![0, 1] bcast_S1x100000_S1024x100000_0_1 : (⟨S1x100000, .f32⟩ : BufTy).Contents (Elt F) → (⟨S1024x100000, .f32⟩ : BufTy).Contents (Elt F)),
    binary main_v2 main_v4 main_v5 (addf : (⟨S1024x100000, .f32⟩ : BufTy).Contents (Elt F) → (⟨S1024x100000, .f32⟩ : BufTy).Contents (Elt F) → (⟨S1024x100000, .f32⟩ : BufTy).Contents (Elt F)) ]

/-- The reference is its list of operations in order. -/
theorem main_eq (c : Dev nD) : main (F := F) c = seq ops := by
  simp only [main, fn_take.body, fn_where.body, seq, bind_assoc, pure_bind]

/-! ## The result as a term of the arguments -/

/-- The row numbers as `take` wraps them: a negative one counts from the end. -/
def wrapped (ids : IVec S1024 32) : IVec S1024x1 32 :=
  broadcastInDim S1024x1 ![0] bcast_S1024_S1024x1_0
    (select (cmpi .slt ids (broadcastInDim S1024 ![] bcast_S_S1024 (constantI S_ 32 0#32)))
      (addi ids (broadcastInDim S1024 ![] bcast_S_S1024 (constantI S_ 32 100000#32))) ids)

/-- Which wrapped row numbers are rows. -/
def valid (ids : IVec S1024 32) : IVec S1024x1 1 :=
  andi (cmpi .sge (wrapped ids) (broadcastInDim S1024x1 ![] bcast_S_S1024x1 (constantI S_ 32 0#32)))
    (cmpi .sle (wrapped ids) (broadcastInDim S1024x1 ![0, 1] bcast_S1x1_S1024x1_0_1 (broadcastInDim S1x1 ![1] bcast_S1_S1x1_1 (constantI S1 32 99999#32))))

/-- What `take` returns: the gathered rows, and NaN where the row number is no row. -/
def taken (ids : IVec S1024 32) (tab : FVec F S100000x64 .f32) : FVec F S1024x64 .f32 :=
  select (broadcastInDim S1024x64 ![0] bcast_S1024_S1024x64_0 (Host.reduce IntOp.andi (valid ids) (constantI S_ 1 1#1) reducesTo_S1024x1_S1024_d1 h_S_))
    (Host.gather gather_S100000x64_S1024x1_S1024x64_1_0_n_n_0_1_164 tab (wrapped ids))
    (broadcastInDim S1024x64 ![] bcast_S_S1024x64 (constant S_ .f32 0x7FC00000#32))

/-- The reference's result. -/
def logits (ids : IVec S1024 32) (tab w : FVec F S100000x64 .f32) (b : FVec F S100000 .f32) : FVec F S1024x100000 .f32 :=
  addf (Host.dotGeneral dot_S1024x64_S64x100000_S1024x100000_1_0_0_1_n_n none (taken ids tab)
      (transpose S64x100000 [1, 0] w transposes_S100000x64_S64x100000_1_0))
    (broadcastInDim S1024x100000 ![0, 1] bcast_S1x100000_S1024x100000_0_1 (broadcastInDim S1x100000 ![1] bcast_S100000_S1x100000_1 b))

/-- The result after the operations is `logits` of the arguments. -/
theorem out_eq (V : Valuation τ sig (Elt F)) :
    after ops V (main_v5 : DevRef τ sig)
      = logits (V (main_arg0 : DevRef τ sig)) (V (main_arg1 : DevRef τ sig)) (V (main_arg2 : DevRef τ sig)) (V (main_arg3 : DevRef τ sig)) := by
  after_results_simp
  rfl

/-- The ids are unchanged. -/
theorem arg0_eq (V : Valuation τ sig (Elt F)) : after ops V (main_arg0 : DevRef τ sig) = V (main_arg0 : DevRef τ sig) := by
  simp only [after_cons, after_nil]
  rfl

/-- The embedding table is unchanged. -/
theorem arg1_eq (V : Valuation τ sig (Elt F)) : after ops V (main_arg1 : DevRef τ sig) = V (main_arg1 : DevRef τ sig) := by
  simp only [after_cons, after_nil]
  rfl

/-- The head's matrix is unchanged. -/
theorem arg2_eq (V : Valuation τ sig (Elt F)) : after ops V (main_arg2 : DevRef τ sig) = V (main_arg2 : DevRef τ sig) := by
  simp only [after_cons, after_nil]
  rfl

/-- The head's bias is unchanged. -/
theorem arg3_eq (V : Valuation τ sig (Elt F)) : after ops V (main_arg3 : DevRef τ sig) = V (main_arg3 : DevRef τ sig) := by
  simp only [after_cons, after_nil]
  rfl

/-! ## The run -/

/-- The reference scopes no buffer. -/
theorem scopedRefs_eq : (Finset.univ.filter fun b : Ref sig .tc => b.isScoped) = ∅ := by decide
/-- The reference scopes no semaphore. -/
theorem scopedSems_eq : (Finset.univ.filter fun sm : SemLoc sig => sm.isScoped .tc) = ∅ := by decide

/-- The operations touch the TensorCore's arrays only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    binary_bufs_sub .., unary_bufs_sub .., unary_bufs_sub .., binary_bufs_sub ..⟩

/-- Every execution of the reference ends with each array at what the operations leave in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.R

end
-- ==== Proof.Equation.lean ====
/-
  At exact arithmetic the kernel's result is the reference's: each entry is the sum over the 64 columns of a gathered row times
  a row of the head's matrix, plus the bias.
-/
module

public import proofs.«01_k».proof.Proof.Run
public import proofs.«01_k».proof.Proof.Reference
public import Idealize.ShloMosaic.Lib.Routing.Ops
public import Idealize.ShloMosaic.Lib.ValueIdx
public import Idealize.ShloMosaic.Lib.Pointwise

@[expose] public section

noncomputable section

namespace Cert.Proof

open Cert.ReferenceIdeal Cert.ReferenceIdeal.Gen
open Idealize.ShloMosaic
open scoped BigOperators

/-! ## The reference's rows -/

section
variable {F : FTy → Type} [FloatOps F]
variable {ids : IVec S1024 32} (hid : ∀ i, (ids i).toNat < 100000)
include hid

/-- An id reads the same signed and unsigned. -/
theorem id_toInt (i : S1024.Idx) : (ids i).toInt = (ids i).toNat :=
  BitVec.toInt_eq_toNat_of_lt (by have := hid i; omega)

/-- No id is negative, so `take` wraps none. -/
theorem wrapped_apply (i : S1024x1.Idx) : R.wrapped ids i = ids (ValueIdx.ix1 (i 0)) := by
  unfold R.wrapped
  pointwise
  have h : IntOp.cmpi .slt (ids (ValueIdx.ix1 (i 0))) 0#32 ≠ 1#1 := fun h => by
    have h := IntOp.cmpi_slt.1 h
    rw [id_toInt hid] at h
    change ((ids (ValueIdx.ix1 (i 0))).toNat : Int) < 0 at h
    omega
  exact if_neg h

/-- Every id is a row. -/
theorem valid_apply (i : S1024x1.Idx) : R.valid ids i = 1#1 := by
  unfold R.valid
  refine IntOp.andi_eq_one.2 ⟨IntOp.cmpi_sge.2 ?_, IntOp.cmpi_sle.2 ?_⟩
  · rw [wrapped_apply hid, id_toInt hid]
    show (0 : Int) ≤ _
    omega
  · rw [wrapped_apply hid, id_toInt hid]
    have := hid (ValueIdx.ix1 (i 0))
    show _ ≤ (99999 : Int)
    omega

/-- `take` returns the gathered rows. -/
theorem taken_apply (tab : FVec F S100000x64 .f32) (r : Fin 1024) (k : Fin 64) :
    R.taken ids tab (ValueIdx.ix2 r k) = tab (ValueIdx.ix2 (K.rowOf (ids (ValueIdx.ix1 r))) k) := by
  have hrow : (ids (ValueIdx.ix1 r)).toNat % 100000 = (ids (ValueIdx.ix1 r)).toNat := Nat.mod_eq_of_lt (hid _)
  have hg : Host.gather gather_S100000x64_S1024x1_S1024x64_1_0_n_n_0_1_164 tab (R.wrapped ids) (ValueIdx.ix2 r k)
      = tab (ValueIdx.ix2 (K.rowOf (ids (ValueIdx.ix1 r))) k) :=
    Routing.gather_row _ rfl rfl rfl rfl rfl tab (R.wrapped ids) r k (K.rowOf (ids (ValueIdx.ix1 r)))
      ((wrapped_apply hid _).trans (BitVec.eq_of_toNat_eq (by
        rw [BitVec.toNat_ofNat]
        show (ids (ValueIdx.ix1 r)).toNat = (ids (ValueIdx.ix1 r)).toNat % 100000 % 2 ^ 32
        have := hid (ValueIdx.ix1 r)
        omega))) (by decide)
  rw [← hg]
  exact congrArg (fun c => Scalar.select c (Host.gather gather_S100000x64_S1024x1_S1024x64_1_0_n_n_0_1_164 tab (R.wrapped ids) (ValueIdx.ix2 r k)) _)
    (Host.reduce_andi_one _ _ _ _ _ rfl (valid_apply hid))

end

/-! ## One entry of the result -/

/-- The reference's entry at `(r, c)`. -/
theorem logits_apply {ids : IVec S1024 32} (hid : ∀ i, (ids i).toNat < 100000) (tab w : FVec Ideal S100000x64 .f32)
    (b : FVec Ideal S100000 .f32) (r : Fin 1024) (c : Fin 100000) :
    R.logits ids tab w b (ValueIdx.ix2 r c)
      = (∑ k : Fin 64, tab (ValueIdx.ix2 (K.rowOf (ids (ValueIdx.ix1 r))) k) * w (ValueIdx.ix2 c k)) + b (ValueIdx.ix1 c) := by
  unfold R.logits
  pointwise
  exact congrArg₂ (· + ·) (Finset.sum_congr rfl fun k _ => congrArg₂ (· * ·) (taken_apply hid tab r k) rfl) rfl

/-- The kernel's entry at `(j, r)` of a block. -/
theorem score_apply (x : FVec Ideal Cert.KernelIdeal.S1024x64 .f32) (V : FVec Ideal Cert.KernelIdeal.S64x4096 .f32)
    (B : FVec Ideal Cert.KernelIdeal.S1x4096 .f32) (j : Fin 4096) (r : Fin 1024) :
    Cert.KernelIdeal.Gen.k2_pay1 x V B (ValueIdx.ix2 j r)
      = (∑ k : Fin 64, x (ValueIdx.ix2 r k) * V (ValueIdx.ix2 k j)) + B (ValueIdx.ix2 0 j) := by
  unfold Cert.KernelIdeal.Gen.k2_pay1
  pointwise
  exact congrArg₂ (· + ·) (Finset.sum_congr rfl fun k _ => mul_comm _ _) (Fin.sum_univ_one _)

/-! ## The two results -/

/-- Whatever the kernel may leave is the reference's result. -/
theorem result_eq {m : (ℓ : Loc Cert.KernelIdeal.nD Cert.KernelIdeal.τ Cert.KernelIdeal.sig) → Buf (Elt Ideal) ℓ}
    {d : Dev Cert.KernelIdeal.nD} (hid : ∀ i, (K.idsOf m d i).toNat < 100000) {G : Cert.KernelIdeal.S100000x1024.Idx → Ideal .f32}
    (hG : K.Good m d G) : K.outT G = R.logits (F := Ideal) (m (K.a0Loc d)) (m (K.a1Loc d)) (m (K.a2Loc d)) (m (K.a3Loc d)) := by
  funext i
  obtain ⟨r, c, rfl⟩ : ∃ (r : Fin 1024) (c : Fin 100000), i = ValueIdx.ix2 r c := ⟨i 0, i 1, ValueIdx.eq_ix2 i⟩
  refine Eq.trans ?_ (logits_apply (ids := K.idsOf m d) hid (K.tabOf m d) (m (K.a2Loc d)) (m (K.a3Loc d)) r c).symm
  obtain ⟨V, B, j, hV, hB, hv⟩ := hG (ValueIdx.ix2 c r)
  have ho : K.outT G (ValueIdx.ix2 r c) = G (ValueIdx.ix2 c r) := by
    unfold K.outT
    pointwise
    rfl
  have hw : ∀ k, K.wT m d (ValueIdx.ix2 k c) = (m (K.a2Loc d) : S100000x64.Idx → Ideal .f32) (ValueIdx.ix2 c k) := fun k => by
    unfold K.wT
    pointwise
    rfl
  have hb : K.bR m d (ValueIdx.ix2 0 c) = (m (K.a3Loc d) : S100000.Idx → Ideal .f32) (ValueIdx.ix1 c) :=
    Routing.cast12 _ _ (0 : Fin 1) c c (by simp)
  refine ho.trans (hv.trans ((score_apply _ V B j r).trans (congrArg₂ (· + ·) (Finset.sum_congr rfl fun k _ => congrArg₂ (· * ·) rfl ?_) ?_)))
  · exact (hV k).trans (hw k)
  · exact hB.trans hb

end Cert.Proof

end
-- ==== Proof.lean ====
/-
  The certificate's claim. Proof/Run.lean runs the kernel's program once, over any float values; Proof/Reference.lean runs the
  reference; Proof/Equation.lean says that at exact arithmetic the two results are one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Pre
public import proofs.«01_k».proof.Proof.Run
public import proofs.«01_k».proof.Proof.Reference
public import proofs.«01_k».proof.Proof.Equation

@[expose] public section

noncomputable section

namespace Cert.Proof

open Idealize.ShloMosaic Idealize.SL.Sem

/-- The kernel's bodies and those of its reading at exact arithmetic are one table, both over the machine's floats. -/
theorem bodies_eq : Cert.Kernel.defs₀ (F := Bits) = Cert.KernelIdeal.defs₀ (F := Bits) := by
  funext p ℓ a
  match p, ℓ, a with
  | .tc, 0, (_, _) => rfl
  | .tc, 1, _ => rfl
  | .tc, 2, (_, _) => rfl
  | .scScalar _, 0, _ => rfl
  | .scScalar _, 1, _ => rfl
  | .scScalar _, 2, _ => rfl
  | .scVector _ _, 0, _ => rfl
  | .scVector _ _, 1, _ => rfl
  | .scVector _ _, 2, _ => rfl

/-- So are the tables with the pipelines and the launches. -/
theorem defs_eq : Cert.Kernel.defs (F := Bits) = Cert.KernelIdeal.defs (F := Bits) :=
  congrArg (fun t => (Cert.KernelIdeal.sc (F := Bits)).defs (Pipeline.defs (Cert.KernelIdeal.pcfgs (F := Bits)) t)) bodies_eq

/-- The kernel's frame: its program is the one that Proof/Run.lean runs, read at the machine's floats. -/
theorem frame_kernel : Cert.quiescent_Kernel := fun m ρ hpre => by
  rw [defs_eq]
  exact (θ_run Cert.KernelIdeal.defs _ _).mono (fun _ h => ⟨fun c => (h.1 c).1, h.2⟩)
    (K.run_main (F := Bits) m ρ fun d i => ids_lt (hpre d) i)

/-- The frame of the kernel read at exact arithmetic. -/
theorem frame_kernelIdeal : Cert.quiescent_KernelIdeal := fun m ρ hpre =>
  (θ_run Cert.KernelIdeal.defs _ _).mono (fun _ h => ⟨fun c => (h.1 c).1, h.2⟩)
    (K.run_main (F := Ideal) m ρ fun d i => ids_lt (hpre d) i)

/-- The reference's frame: from any memory; it declares no semaphore. -/
theorem frame_referenceIdeal : Cert.quiescent_ReferenceIdeal := fun m ρ _ =>
  (θ_run Cert.ReferenceIdeal.defs _ _).mono
    (fun r h => ⟨fun c => ⟨(h c Cert.ReferenceIdeal.main_arg0).trans (R.arg0_eq _), (h c Cert.ReferenceIdeal.main_arg1).trans (R.arg1_eq _),
      (h c Cert.ReferenceIdeal.main_arg2).trans (R.arg2_eq _), (h c Cert.ReferenceIdeal.main_arg3).trans (R.arg3_eq _)⟩,
      sem_eq_zero_of_no_sems (by decide) r.2⟩)
    (R.run_main (F := Ideal) m ρ)

/-- Kernel and reference end with one result, the reference's term of the arguments. -/
theorem algebraic : Cert.algebraic_KernelIdeal_ReferenceIdeal := by
  intro m ρ m' ρ' hpre hagree
  have hid : ∀ d i, (K.idsOf m d i).toNat < 100000 := fun d i => ids_lt (hpre d) i
  refine ⟨fun c => R.logits (F := Ideal) (m (K.a0Loc c)) (m (K.a1Loc c)) (m (K.a2Loc c)) (m (K.a3Loc c)), ?_, ?_⟩
  · refine (θ_run Cert.KernelIdeal.defs _ _).mono (fun r h c => ?_) (K.run_main (F := Ideal) m ρ hid)
    obtain ⟨ha, G, hG, h6⟩ := h.1 c
    exact ⟨h6.trans (result_eq (hid c) hG), ha⟩
  · refine (θ_run Cert.ReferenceIdeal.defs _ _).mono (fun r h c => ⟨(h c Cert.ReferenceIdeal.main_v5).trans ((R.out_eq _).trans ?_),
      (h c Cert.ReferenceIdeal.main_arg0).trans (R.arg0_eq _), (h c Cert.ReferenceIdeal.main_arg1).trans (R.arg1_eq _),
      (h c Cert.ReferenceIdeal.main_arg2).trans (R.arg2_eq _), (h c Cert.ReferenceIdeal.main_arg3).trans (R.arg3_eq _)⟩)
      (R.run_main (F := Ideal) m' ρ')
    obtain ⟨h0, h1, h2, h3⟩ := hagree c
    exact (congr (congr (congr (congrArg R.logits h0) h1) h2) h3)

/-- Everything that the certificate claims. -/
theorem claim : Cert.Claim := ⟨Cert.Kernel.Gen.facts, Cert.KernelIdeal.Gen.facts, Cert.ReferenceIdeal.Gen.facts, Cert.Pre_in_range.Gen.facts,
  frame_kernel, frame_kernelIdeal, frame_referenceIdeal, fun m ρ _ => frame_referenceIdeal m ρ trivial, trivial, algebraic⟩

end Cert.Proof

end
